-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![1024, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S16x64x512 : Shape := ⟨3, ![16, 64, 512]⟩
abbrev S16 : Shape := ⟨1, ![16]⟩
abbrev S_ : Shape := ⟨0, ![]⟩
abbrev S1 : Shape := ⟨1, ![1]⟩
abbrev S64x1024 : Shape := ⟨2, ![64, 1024]⟩
abbrev S1x64x512 : Shape := ⟨3, ![1, 64, 512]⟩

abbrev nBuf : Space → Nat
  | .hbm => 8
  | .vmem => 12
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S64x512, .f32⟩
  | .local _ .vmem, ⟨1, _⟩ => ⟨S512x1024, .f32⟩
  | .local _ .vmem, ⟨2, _⟩ => ⟨S1024x512, .f32⟩
  | .local _ .vmem, ⟨3, _⟩ => ⟨S512x1024, .f32⟩
  | .local _ .vmem, ⟨4, _⟩ => ⟨S1024x512, .f32⟩
  | .local _ .vmem, ⟨5, _⟩ => ⟨S512x1024, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S16x64x512, .f32⟩
  | .local _ .vmem, ⟨11, _⟩ => ⟨S64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v71 : BitVec 32 := Scalar.muli v2 c64_i32
  let c0_i32_69 : BitVec 32 := 0#32
  ![v71.toNat, 0]
def k0_dev16 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_64 : BitVec 32 := 1#32
  let v69 : BitVec 32 := Scalar.addi v2 c1_i32_64
  let c16_i32_65 : BitVec 32 := 16#32
  let v70 : BitVec 32 := Scalar.remsi v69 c16_i32_65
  let c1_i32_67 : BitVec 32 := 1#32
  let v72 : BitVec 32 := Scalar.muli v70 c1_i32_67
  let v73 : BitVec 32 := Scalar.addi c0_i32_68 v72
  v73.toNat
def k0_dev17 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_70 : BitVec 32 := 2#32
  let v79 : BitVec 32 := Scalar.addi v2 c2_i32_70
  let c16_i32_71 : BitVec 32 := 16#32
  let v80 : BitVec 32 := Scalar.remsi v79 c16_i32_71
  let c1_i32_74 : BitVec 32 := 1#32
  let v82 : BitVec 32 := Scalar.muli v80 c1_i32_74
  let v83 : BitVec 32 := Scalar.addi c0_i32_75 v82
  v83.toNat
def k0_dev18 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_77 : BitVec 32 := 3#32
  let v89 : BitVec 32 := Scalar.addi v2 c3_i32_77
  let c16_i32_78 : BitVec 32 := 16#32
  let v90 : BitVec 32 := Scalar.remsi v89 c16_i32_78
  let c1_i32_81 : BitVec 32 := 1#32
  let v92 : BitVec 32 := Scalar.muli v90 c1_i32_81
  let v93 : BitVec 32 := Scalar.addi c0_i32_82 v92
  v93.toNat
def k0_dev19 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_84 : BitVec 32 := 4#32
  let v99 : BitVec 32 := Scalar.addi v2 c4_i32_84
  let c16_i32_85 : BitVec 32 := 16#32
  let v100 : BitVec 32 := Scalar.remsi v99 c16_i32_85
  let c1_i32_88 : BitVec 32 := 1#32
  let v102 : BitVec 32 := Scalar.muli v100 c1_i32_88
  let v103 : BitVec 32 := Scalar.addi c0_i32_89 v102
  v103.toNat
def k0_dev20 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_91 : BitVec 32 := 5#32
  let v109 : BitVec 32 := Scalar.addi v2 c5_i32_91
  let c16_i32_92 : BitVec 32 := 16#32
  let v110 : BitVec 32 := Scalar.remsi v109 c16_i32_92
  let c1_i32_95 : BitVec 32 := 1#32
  let v112 : BitVec 32 := Scalar.muli v110 c1_i32_95
  let v113 : BitVec 32 := Scalar.addi c0_i32_96 v112
  v113.toNat
def k0_dev21 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_98 : BitVec 32 := 6#32
  let v119 : BitVec 32 := Scalar.addi v2 c6_i32_98
  let c16_i32_99 : BitVec 32 := 16#32
  let v120 : BitVec 32 := Scalar.remsi v119 c16_i32_99
  let c1_i32_102 : BitVec 32 := 1#32
  let v122 : BitVec 32 := Scalar.muli v120 c1_i32_102
  let v123 : BitVec 32 := Scalar.addi c0_i32_103 v122
  v123.toNat
def k0_dev22 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_105 : BitVec 32 := 7#32
  let v129 : BitVec 32 := Scalar.addi v2 c7_i32_105
  let c16_i32_106 : BitVec 32 := 16#32
  let v130 : BitVec 32 := Scalar.remsi v129 c16_i32_106
  let c1_i32_109 : BitVec 32 := 1#32
  let v132 : BitVec 32 := Scalar.muli v130 c1_i32_109
  let v133 : BitVec 32 := Scalar.addi c0_i32_110 v132
  v133.toNat
def k0_dev23 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_112 : BitVec 32 := 8#32
  let v139 : BitVec 32 := Scalar.addi v2 c8_i32_112
  let c16_i32_113 : BitVec 32 := 16#32
  let v140 : BitVec 32 := Scalar.remsi v139 c16_i32_113
  let c1_i32_116 : BitVec 32 := 1#32
  let v142 : BitVec 32 := Scalar.muli v140 c1_i32_116
  let v143 : BitVec 32 := Scalar.addi c0_i32_117 v142
  v143.toNat
def k0_dev24 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_119 : BitVec 32 := 9#32
  let v149 : BitVec 32 := Scalar.addi v2 c9_i32_119
  let c16_i32_120 : BitVec 32 := 16#32
  let v150 : BitVec 32 := Scalar.remsi v149 c16_i32_120
  let c1_i32_123 : BitVec 32 := 1#32
  let v152 : BitVec 32 := Scalar.muli v150 c1_i32_123
  let v153 : BitVec 32 := Scalar.addi c0_i32_124 v152
  v153.toNat
def k0_dev25 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_126 : BitVec 32 := 10#32
  let v159 : BitVec 32 := Scalar.addi v2 c10_i32_126
  let c16_i32_127 : BitVec 32 := 16#32
  let v160 : BitVec 32 := Scalar.remsi v159 c16_i32_127
  let c1_i32_130 : BitVec 32 := 1#32
  let v162 : BitVec 32 := Scalar.muli v160 c1_i32_130
  let v163 : BitVec 32 := Scalar.addi c0_i32_131 v162
  v163.toNat
def k0_dev26 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_133 : BitVec 32 := 11#32
  let v169 : BitVec 32 := Scalar.addi v2 c11_i32_133
  let c16_i32_134 : BitVec 32 := 16#32
  let v170 : BitVec 32 := Scalar.remsi v169 c16_i32_134
  let c1_i32_137 : BitVec 32 := 1#32
  let v172 : BitVec 32 := Scalar.muli v170 c1_i32_137
  let v173 : BitVec 32 := Scalar.addi c0_i32_138 v172
  v173.toNat
def k0_dev27 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_140 : BitVec 32 := 12#32
  let v179 : BitVec 32 := Scalar.addi v2 c12_i32_140
  let c16_i32_141 : BitVec 32 := 16#32
  let v180 : BitVec 32 := Scalar.remsi v179 c16_i32_141
  let c1_i32_144 : BitVec 32 := 1#32
  let v182 : BitVec 32 := Scalar.muli v180 c1_i32_144
  let v183 : BitVec 32 := Scalar.addi c0_i32_145 v182
  v183.toNat
def k0_dev28 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_147 : BitVec 32 := 13#32
  let v189 : BitVec 32 := Scalar.addi v2 c13_i32_147
  let c16_i32_148 : BitVec 32 := 16#32
  let v190 : BitVec 32 := Scalar.remsi v189 c16_i32_148
  let c1_i32_151 : BitVec 32 := 1#32
  let v192 : BitVec 32 := Scalar.muli v190 c1_i32_151
  let v193 : BitVec 32 := Scalar.addi c0_i32_152 v192
  v193.toNat
def k0_dev29 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_154 : BitVec 32 := 14#32
  let v199 : BitVec 32 := Scalar.addi v2 c14_i32_154
  let c16_i32_155 : BitVec 32 := 16#32
  let v200 : BitVec 32 := Scalar.remsi v199 c16_i32_155
  let c1_i32_158 : BitVec 32 := 1#32
  let v202 : BitVec 32 := Scalar.muli v200 c1_i32_158
  let v203 : BitVec 32 := Scalar.addi c0_i32_159 v202
  v203.toNat
def k0_dev30 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_161 : BitVec 32 := 15#32
  let v209 : BitVec 32 := Scalar.addi v2 c15_i32_161
  let c16_i32_162 : BitVec 32 := 16#32
  let v210 : BitVec 32 := Scalar.remsi v209 c16_i32_162
  let c1_i32_165 : BitVec 32 := 1#32
  let v212 : BitVec 32 := Scalar.muli v210 c1_i32_165
  let v213 : BitVec 32 := Scalar.addi c0_i32_166 v212
  v213.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_170 : BitVec 32 := 64#32
  let v220 : BitVec 32 := Scalar.muli v2 c64_i32_170
  let v221 : Index := Scalar.indexCast v220
  let c0_171 : Index := 0#32
  ![v221.toNat, 0]
def k0_off4 (d0 : Dev nD) (c0_i32_172 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v225 : BitVec 32 := Scalar.addi v2 c0_i32_172
  let c16_i32_173 : BitVec 32 := 16#32
  let v226 : BitVec 32 := Scalar.remsi v225 c16_i32_173
  let c64_i32_174 : BitVec 32 := 64#32
  let v227 : BitVec 32 := Scalar.muli v226 c64_i32_174
  let v228 : Index := Scalar.indexCast v227
  let c0_175 : Index := 0#32
  ![v228.toNat, 0]
def k0_off5 (d0 : Dev nD) (c1_i32_184 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v243 : BitVec 32 := Scalar.addi v2 c1_i32_184
  let c16_i32_185 : BitVec 32 := 16#32
  let v244 : BitVec 32 := Scalar.remsi v243 c16_i32_185
  ![v244.toNat]
def k0_off6 (d0 : Dev nD) (c1_i32_184 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v243 : BitVec 32 := Scalar.addi v2 c1_i32_184
  let c16_i32_185 : BitVec 32 := 16#32
  let v244 : BitVec 32 := Scalar.remsi v243 c16_i32_185
  let c64_i32_186 : BitVec 32 := 64#32
  let v245 : BitVec 32 := Scalar.muli v244 c64_i32_186
  let c0_i32_190 : BitVec 32 := 0#32
  ![v245.toNat, 0]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_206 : BitVec 32 := 0#32
  let c0_i32_207 : BitVec 32 := 0#32
  ![v2.toNat, 0, 0]
def k0_dev31 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_184 : BitVec 32 := 1#32
  let v243 : BitVec 32 := Scalar.addi v2 c1_i32_184
  let c16_i32_185 : BitVec 32 := 16#32
  let v244 : BitVec 32 := Scalar.remsi v243 c16_i32_185
  let c1_i32_204 : BitVec 32 := 1#32
  let v268 : BitVec 32 := Scalar.muli v244 c1_i32_204
  let v269 : BitVec 32 := Scalar.addi c0_i32_205 v268
  v269.toNat
def k0_dev32 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_209 : BitVec 32 := 2#32
  let v277 : BitVec 32 := Scalar.addi v2 c2_i32_209
  let c16_i32_210 : BitVec 32 := 16#32
  let v278 : BitVec 32 := Scalar.remsi v277 c16_i32_210
  let c1_i32_229 : BitVec 32 := 1#32
  let v302 : BitVec 32 := Scalar.muli v278 c1_i32_229
  let v303 : BitVec 32 := Scalar.addi c0_i32_230 v302
  v303.toNat
def k0_dev33 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_234 : BitVec 32 := 3#32
  let v311 : BitVec 32 := Scalar.addi v2 c3_i32_234
  let c16_i32_235 : BitVec 32 := 16#32
  let v312 : BitVec 32 := Scalar.remsi v311 c16_i32_235
  let c1_i32_254 : BitVec 32 := 1#32
  let v336 : BitVec 32 := Scalar.muli v312 c1_i32_254
  let v337 : BitVec 32 := Scalar.addi c0_i32_255 v336
  v337.toNat
def k0_dev34 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_259 : BitVec 32 := 4#32
  let v345 : BitVec 32 := Scalar.addi v2 c4_i32_259
  let c16_i32_260 : BitVec 32 := 16#32
  let v346 : BitVec 32 := Scalar.remsi v345 c16_i32_260
  let c1_i32_279 : BitVec 32 := 1#32
  let v370 : BitVec 32 := Scalar.muli v346 c1_i32_279
  let v371 : BitVec 32 := Scalar.addi c0_i32_280 v370
  v371.toNat
def k0_dev35 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_284 : BitVec 32 := 5#32
  let v379 : BitVec 32 := Scalar.addi v2 c5_i32_284
  let c16_i32_285 : BitVec 32 := 16#32
  let v380 : BitVec 32 := Scalar.remsi v379 c16_i32_285
  let c1_i32_304 : BitVec 32 := 1#32
  let v404 : BitVec 32 := Scalar.muli v380 c1_i32_304
  let v405 : BitVec 32 := Scalar.addi c0_i32_305 v404
  v405.toNat
def k0_dev36 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_309 : BitVec 32 := 6#32
  let v413 : BitVec 32 := Scalar.addi v2 c6_i32_309
  let c16_i32_310 : BitVec 32 := 16#32
  let v414 : BitVec 32 := Scalar.remsi v413 c16_i32_310
  let c1_i32_329 : BitVec 32 := 1#32
  let v438 : BitVec 32 := Scalar.muli v414 c1_i32_329
  let v439 : BitVec 32 := Scalar.addi c0_i32_330 v438
  v439.toNat
def k0_dev37 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_334 : BitVec 32 := 7#32
  let v447 : BitVec 32 := Scalar.addi v2 c7_i32_334
  let c16_i32_335 : BitVec 32 := 16#32
  let v448 : BitVec 32 := Scalar.remsi v447 c16_i32_335
  let c1_i32_354 : BitVec 32 := 1#32
  let v472 : BitVec 32 := Scalar.muli v448 c1_i32_354
  let v473 : BitVec 32 := Scalar.addi c0_i32_355 v472
  v473.toNat
def k0_dev38 (d0 : Dev nD) : Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_359 : BitVec 32 := 8#32
  let v481 : BitVec 32 := Scalar.addi v2 c8_i32_359
  let c16_i32_360 : BitVec 32 := 16#32
  let v482 : BitVec 32 := Scalar.remsi v481 c16_i32_360
  let c1_i32_379 : BitVec 32 := 1#32
  let v506 : BitVec 32 := Scalar.muli v482 c1_i32_379
  let v507 : BitVec 32 := Scalar.addi c0_i32_380 v506
  v507.toNat
def k0_dev39 (d0 : Dev nD) : Nat :=
  let c0_i32_405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_384 : BitVec 32 := 9#32
  let v515 : BitVec 32 := Scalar.addi v2 c9_i32_384
  let c16_i32_385 : BitVec 32 := 16#32
  let v516 : BitVec 32 := Scalar.remsi v515 c16_i32_385
  let c1_i32_404 : BitVec 32 := 1#32
  let v540 : BitVec 32 := Scalar.muli v516 c1_i32_404
  let v541 : BitVec 32 := Scalar.addi c0_i32_405 v540
  v541.toNat
def k0_dev40 (d0 : Dev nD) : Nat :=
  let c0_i32_430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_409 : BitVec 32 := 10#32
  let v549 : BitVec 32 := Scalar.addi v2 c10_i32_409
  let c16_i32_410 : BitVec 32 := 16#32
  let v550 : BitVec 32 := Scalar.remsi v549 c16_i32_410
  let c1_i32_429 : BitVec 32 := 1#32
  let v574 : BitVec 32 := Scalar.muli v550 c1_i32_429
  let v575 : BitVec 32 := Scalar.addi c0_i32_430 v574
  v575.toNat
def k0_dev41 (d0 : Dev nD) : Nat :=
  let c0_i32_455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_434 : BitVec 32 := 11#32
  let v583 : BitVec 32 := Scalar.addi v2 c11_i32_434
  let c16_i32_435 : BitVec 32 := 16#32
  let v584 : BitVec 32 := Scalar.remsi v583 c16_i32_435
  let c1_i32_454 : BitVec 32 := 1#32
  let v608 : BitVec 32 := Scalar.muli v584 c1_i32_454
  let v609 : BitVec 32 := Scalar.addi c0_i32_455 v608
  v609.toNat
def k0_dev42 (d0 : Dev nD) : Nat :=
  let c0_i32_480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_459 : BitVec 32 := 12#32
  let v617 : BitVec 32 := Scalar.addi v2 c12_i32_459
  let c16_i32_460 : BitVec 32 := 16#32
  let v618 : BitVec 32 := Scalar.remsi v617 c16_i32_460
  let c1_i32_479 : BitVec 32 := 1#32
  let v642 : BitVec 32 := Scalar.muli v618 c1_i32_479
  let v643 : BitVec 32 := Scalar.addi c0_i32_480 v642
  v643.toNat
def k0_dev43 (d0 : Dev nD) : Nat :=
  let c0_i32_505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_484 : BitVec 32 := 13#32
  let v651 : BitVec 32 := Scalar.addi v2 c13_i32_484
  let c16_i32_485 : BitVec 32 := 16#32
  let v652 : BitVec 32 := Scalar.remsi v651 c16_i32_485
  let c1_i32_504 : BitVec 32 := 1#32
  let v676 : BitVec 32 := Scalar.muli v652 c1_i32_504
  let v677 : BitVec 32 := Scalar.addi c0_i32_505 v676
  v677.toNat
def k0_dev44 (d0 : Dev nD) : Nat :=
  let c0_i32_530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_509 : BitVec 32 := 14#32
  let v685 : BitVec 32 := Scalar.addi v2 c14_i32_509
  let c16_i32_510 : BitVec 32 := 16#32
  let v686 : BitVec 32 := Scalar.remsi v685 c16_i32_510
  let c1_i32_529 : BitVec 32 := 1#32
  let v710 : BitVec 32 := Scalar.muli v686 c1_i32_529
  let v711 : BitVec 32 := Scalar.addi c0_i32_530 v710
  v711.toNat
def k0_dev45 (d0 : Dev nD) : Nat :=
  let c0_i32_555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_534 : BitVec 32 := 15#32
  let v719 : BitVec 32 := Scalar.addi v2 c15_i32_534
  let c16_i32_535 : BitVec 32 := 16#32
  let v720 : BitVec 32 := Scalar.remsi v719 c16_i32_535
  let c1_i32_554 : BitVec 32 := 1#32
  let v744 : BitVec 32 := Scalar.muli v720 c1_i32_554
  let v745 : BitVec 32 := Scalar.addi c0_i32_555 v744
  v745.toNat
def k0_off8 (d0 : Dev nD) (c1_i32_561 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v756 : BitVec 32 := Scalar.addi v2 c1_i32_561
  let c16_i32_562 : BitVec 32 := 16#32
  let v757 : BitVec 32 := Scalar.remsi v756 c16_i32_562
  let c0_i32_566 : BitVec 32 := 0#32
  let c0_i32_567 : BitVec 32 := 0#32
  ![v757.toNat, 0, 0]
def k0_off9 (d0 : Dev nD) (c1_i32_561 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v756 : BitVec 32 := Scalar.addi v2 c1_i32_561
  let c16_i32_562 : BitVec 32 := 16#32
  let v757 : BitVec 32 := Scalar.remsi v756 c16_i32_562
  let v764 : Index := Scalar.indexCast v757
  let c0_568 : Index := 0#32
  let c0_569 : Index := 0#32
  ![v764.toNat, 0, 0]
def k0_dev46 (d0 : Dev nD) : Nat :=
  let c0_i32_823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_818 : BitVec 32 := 1#32
  let v1059 : BitVec 32 := Scalar.addi v2 c1_i32_818
  let c16_i32_819 : BitVec 32 := 16#32
  let v1060 : BitVec 32 := Scalar.remsi v1059 c16_i32_819
  let c1_i32_822 : BitVec 32 := 1#32
  let v1062 : BitVec 32 := Scalar.muli v1060 c1_i32_822
  let v1063 : BitVec 32 := Scalar.addi c0_i32_823 v1062
  v1063.toNat
def k0_dev47 (d0 : Dev nD) : Nat :=
  let c0_i32_830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_825 : BitVec 32 := 2#32
  let v1069 : BitVec 32 := Scalar.addi v2 c2_i32_825
  let c16_i32_826 : BitVec 32 := 16#32
  let v1070 : BitVec 32 := Scalar.remsi v1069 c16_i32_826
  let c1_i32_829 : BitVec 32 := 1#32
  let v1072 : BitVec 32 := Scalar.muli v1070 c1_i32_829
  let v1073 : BitVec 32 := Scalar.addi c0_i32_830 v1072
  v1073.toNat
def k0_dev48 (d0 : Dev nD) : Nat :=
  let c0_i32_837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_832 : BitVec 32 := 3#32
  let v1079 : BitVec 32 := Scalar.addi v2 c3_i32_832
  let c16_i32_833 : BitVec 32 := 16#32
  let v1080 : BitVec 32 := Scalar.remsi v1079 c16_i32_833
  let c1_i32_836 : BitVec 32 := 1#32
  let v1082 : BitVec 32 := Scalar.muli v1080 c1_i32_836
  let v1083 : BitVec 32 := Scalar.addi c0_i32_837 v1082
  v1083.toNat
def k0_dev49 (d0 : Dev nD) : Nat :=
  let c0_i32_844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_839 : BitVec 32 := 4#32
  let v1089 : BitVec 32 := Scalar.addi v2 c4_i32_839
  let c16_i32_840 : BitVec 32 := 16#32
  let v1090 : BitVec 32 := Scalar.remsi v1089 c16_i32_840
  let c1_i32_843 : BitVec 32 := 1#32
  let v1092 : BitVec 32 := Scalar.muli v1090 c1_i32_843
  let v1093 : BitVec 32 := Scalar.addi c0_i32_844 v1092
  v1093.toNat
def k0_dev50 (d0 : Dev nD) : Nat :=
  let c0_i32_851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_846 : BitVec 32 := 5#32
  let v1099 : BitVec 32 := Scalar.addi v2 c5_i32_846
  let c16_i32_847 : BitVec 32 := 16#32
  let v1100 : BitVec 32 := Scalar.remsi v1099 c16_i32_847
  let c1_i32_850 : BitVec 32 := 1#32
  let v1102 : BitVec 32 := Scalar.muli v1100 c1_i32_850
  let v1103 : BitVec 32 := Scalar.addi c0_i32_851 v1102
  v1103.toNat
def k0_dev51 (d0 : Dev nD) : Nat :=
  let c0_i32_858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_853 : BitVec 32 := 6#32
  let v1109 : BitVec 32 := Scalar.addi v2 c6_i32_853
  let c16_i32_854 : BitVec 32 := 16#32
  let v1110 : BitVec 32 := Scalar.remsi v1109 c16_i32_854
  let c1_i32_857 : BitVec 32 := 1#32
  let v1112 : BitVec 32 := Scalar.muli v1110 c1_i32_857
  let v1113 : BitVec 32 := Scalar.addi c0_i32_858 v1112
  v1113.toNat
def k0_dev52 (d0 : Dev nD) : Nat :=
  let c0_i32_865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_860 : BitVec 32 := 7#32
  let v1119 : BitVec 32 := Scalar.addi v2 c7_i32_860
  let c16_i32_861 : BitVec 32 := 16#32
  let v1120 : BitVec 32 := Scalar.remsi v1119 c16_i32_861
  let c1_i32_864 : BitVec 32 := 1#32
  let v1122 : BitVec 32 := Scalar.muli v1120 c1_i32_864
  let v1123 : BitVec 32 := Scalar.addi c0_i32_865 v1122
  v1123.toNat
def k0_dev53 (d0 : Dev nD) : Nat :=
  let c0_i32_872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_867 : BitVec 32 := 8#32
  let v1129 : BitVec 32 := Scalar.addi v2 c8_i32_867
  let c16_i32_868 : BitVec 32 := 16#32
  let v1130 : BitVec 32 := Scalar.remsi v1129 c16_i32_868
  let c1_i32_871 : BitVec 32 := 1#32
  let v1132 : BitVec 32 := Scalar.muli v1130 c1_i32_871
  let v1133 : BitVec 32 := Scalar.addi c0_i32_872 v1132
  v1133.toNat
def k0_dev54 (d0 : Dev nD) : Nat :=
  let c0_i32_879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_874 : BitVec 32 := 9#32
  let v1139 : BitVec 32 := Scalar.addi v2 c9_i32_874
  let c16_i32_875 : BitVec 32 := 16#32
  let v1140 : BitVec 32 := Scalar.remsi v1139 c16_i32_875
  let c1_i32_878 : BitVec 32 := 1#32
  let v1142 : BitVec 32 := Scalar.muli v1140 c1_i32_878
  let v1143 : BitVec 32 := Scalar.addi c0_i32_879 v1142
  v1143.toNat
def k0_dev55 (d0 : Dev nD) : Nat :=
  let c0_i32_886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_881 : BitVec 32 := 10#32
  let v1149 : BitVec 32 := Scalar.addi v2 c10_i32_881
  let c16_i32_882 : BitVec 32 := 16#32
  let v1150 : BitVec 32 := Scalar.remsi v1149 c16_i32_882
  let c1_i32_885 : BitVec 32 := 1#32
  let v1152 : BitVec 32 := Scalar.muli v1150 c1_i32_885
  let v1153 : BitVec 32 := Scalar.addi c0_i32_886 v1152
  v1153.toNat
def k0_dev56 (d0 : Dev nD) : Nat :=
  let c0_i32_893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_888 : BitVec 32 := 11#32
  let v1159 : BitVec 32 := Scalar.addi v2 c11_i32_888
  let c16_i32_889 : BitVec 32 := 16#32
  let v1160 : BitVec 32 := Scalar.remsi v1159 c16_i32_889
  let c1_i32_892 : BitVec 32 := 1#32
  let v1162 : BitVec 32 := Scalar.muli v1160 c1_i32_892
  let v1163 : BitVec 32 := Scalar.addi c0_i32_893 v1162
  v1163.toNat
def k0_dev57 (d0 : Dev nD) : Nat :=
  let c0_i32_900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_895 : BitVec 32 := 12#32
  let v1169 : BitVec 32 := Scalar.addi v2 c12_i32_895
  let c16_i32_896 : BitVec 32 := 16#32
  let v1170 : BitVec 32 := Scalar.remsi v1169 c16_i32_896
  let c1_i32_899 : BitVec 32 := 1#32
  let v1172 : BitVec 32 := Scalar.muli v1170 c1_i32_899
  let v1173 : BitVec 32 := Scalar.addi c0_i32_900 v1172
  v1173.toNat
def k0_dev58 (d0 : Dev nD) : Nat :=
  let c0_i32_907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_902 : BitVec 32 := 13#32
  let v1179 : BitVec 32 := Scalar.addi v2 c13_i32_902
  let c16_i32_903 : BitVec 32 := 16#32
  let v1180 : BitVec 32 := Scalar.remsi v1179 c16_i32_903
  let c1_i32_906 : BitVec 32 := 1#32
  let v1182 : BitVec 32 := Scalar.muli v1180 c1_i32_906
  let v1183 : BitVec 32 := Scalar.addi c0_i32_907 v1182
  v1183.toNat
def k0_dev59 (d0 : Dev nD) : Nat :=
  let c0_i32_914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_909 : BitVec 32 := 14#32
  let v1189 : BitVec 32 := Scalar.addi v2 c14_i32_909
  let c16_i32_910 : BitVec 32 := 16#32
  let v1190 : BitVec 32 := Scalar.remsi v1189 c16_i32_910
  let c1_i32_913 : BitVec 32 := 1#32
  let v1192 : BitVec 32 := Scalar.muli v1190 c1_i32_913
  let v1193 : BitVec 32 := Scalar.addi c0_i32_914 v1192
  v1193.toNat
def k0_dev60 (d0 : Dev nD) : Nat :=
  let c0_i32_921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_916 : BitVec 32 := 15#32
  let v1199 : BitVec 32 := Scalar.addi v2 c15_i32_916
  let c16_i32_917 : BitVec 32 := 16#32
  let v1200 : BitVec 32 := Scalar.remsi v1199 c16_i32_917
  let c1_i32_920 : BitVec 32 := 1#32
  let v1202 : BitVec 32 := Scalar.muli v1200 c1_i32_920
  let v1203 : BitVec 32 := Scalar.addi c0_i32_921 v1202
  v1203.toNat
def k0_dev61 (d0 : Dev nD) : Nat :=
  let c0_i32_961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_940 : BitVec 32 := 1#32
  let v1233 : BitVec 32 := Scalar.addi v2 c1_i32_940
  let c16_i32_941 : BitVec 32 := 16#32
  let v1234 : BitVec 32 := Scalar.remsi v1233 c16_i32_941
  let c1_i32_960 : BitVec 32 := 1#32
  let v1258 : BitVec 32 := Scalar.muli v1234 c1_i32_960
  let v1259 : BitVec 32 := Scalar.addi c0_i32_961 v1258
  v1259.toNat
def k0_dev62 (d0 : Dev nD) : Nat :=
  let c0_i32_986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_965 : BitVec 32 := 2#32
  let v1267 : BitVec 32 := Scalar.addi v2 c2_i32_965
  let c16_i32_966 : BitVec 32 := 16#32
  let v1268 : BitVec 32 := Scalar.remsi v1267 c16_i32_966
  let c1_i32_985 : BitVec 32 := 1#32
  let v1292 : BitVec 32 := Scalar.muli v1268 c1_i32_985
  let v1293 : BitVec 32 := Scalar.addi c0_i32_986 v1292
  v1293.toNat
def k0_dev63 (d0 : Dev nD) : Nat :=
  let c0_i32_1011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_990 : BitVec 32 := 3#32
  let v1301 : BitVec 32 := Scalar.addi v2 c3_i32_990
  let c16_i32_991 : BitVec 32 := 16#32
  let v1302 : BitVec 32 := Scalar.remsi v1301 c16_i32_991
  let c1_i32_1010 : BitVec 32 := 1#32
  let v1326 : BitVec 32 := Scalar.muli v1302 c1_i32_1010
  let v1327 : BitVec 32 := Scalar.addi c0_i32_1011 v1326
  v1327.toNat
def k0_dev64 (d0 : Dev nD) : Nat :=
  let c0_i32_1036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1015 : BitVec 32 := 4#32
  let v1335 : BitVec 32 := Scalar.addi v2 c4_i32_1015
  let c16_i32_1016 : BitVec 32 := 16#32
  let v1336 : BitVec 32 := Scalar.remsi v1335 c16_i32_1016
  let c1_i32_1035 : BitVec 32 := 1#32
  let v1360 : BitVec 32 := Scalar.muli v1336 c1_i32_1035
  let v1361 : BitVec 32 := Scalar.addi c0_i32_1036 v1360
  v1361.toNat
def k0_dev65 (d0 : Dev nD) : Nat :=
  let c0_i32_1061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1040 : BitVec 32 := 5#32
  let v1369 : BitVec 32 := Scalar.addi v2 c5_i32_1040
  let c16_i32_1041 : BitVec 32 := 16#32
  let v1370 : BitVec 32 := Scalar.remsi v1369 c16_i32_1041
  let c1_i32_1060 : BitVec 32 := 1#32
  let v1394 : BitVec 32 := Scalar.muli v1370 c1_i32_1060
  let v1395 : BitVec 32 := Scalar.addi c0_i32_1061 v1394
  v1395.toNat
def k0_dev66 (d0 : Dev nD) : Nat :=
  let c0_i32_1086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1065 : BitVec 32 := 6#32
  let v1403 : BitVec 32 := Scalar.addi v2 c6_i32_1065
  let c16_i32_1066 : BitVec 32 := 16#32
  let v1404 : BitVec 32 := Scalar.remsi v1403 c16_i32_1066
  let c1_i32_1085 : BitVec 32 := 1#32
  let v1428 : BitVec 32 := Scalar.muli v1404 c1_i32_1085
  let v1429 : BitVec 32 := Scalar.addi c0_i32_1086 v1428
  v1429.toNat
def k0_dev67 (d0 : Dev nD) : Nat :=
  let c0_i32_1111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1090 : BitVec 32 := 7#32
  let v1437 : BitVec 32 := Scalar.addi v2 c7_i32_1090
  let c16_i32_1091 : BitVec 32 := 16#32
  let v1438 : BitVec 32 := Scalar.remsi v1437 c16_i32_1091
  let c1_i32_1110 : BitVec 32 := 1#32
  let v1462 : BitVec 32 := Scalar.muli v1438 c1_i32_1110
  let v1463 : BitVec 32 := Scalar.addi c0_i32_1111 v1462
  v1463.toNat
def k0_dev68 (d0 : Dev nD) : Nat :=
  let c0_i32_1136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1115 : BitVec 32 := 8#32
  let v1471 : BitVec 32 := Scalar.addi v2 c8_i32_1115
  let c16_i32_1116 : BitVec 32 := 16#32
  let v1472 : BitVec 32 := Scalar.remsi v1471 c16_i32_1116
  let c1_i32_1135 : BitVec 32 := 1#32
  let v1496 : BitVec 32 := Scalar.muli v1472 c1_i32_1135
  let v1497 : BitVec 32 := Scalar.addi c0_i32_1136 v1496
  v1497.toNat
def k0_dev69 (d0 : Dev nD) : Nat :=
  let c0_i32_1161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1140 : BitVec 32 := 9#32
  let v1505 : BitVec 32 := Scalar.addi v2 c9_i32_1140
  let c16_i32_1141 : BitVec 32 := 16#32
  let v1506 : BitVec 32 := Scalar.remsi v1505 c16_i32_1141
  let c1_i32_1160 : BitVec 32 := 1#32
  let v1530 : BitVec 32 := Scalar.muli v1506 c1_i32_1160
  let v1531 : BitVec 32 := Scalar.addi c0_i32_1161 v1530
  v1531.toNat
def k0_dev70 (d0 : Dev nD) : Nat :=
  let c0_i32_1186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1165 : BitVec 32 := 10#32
  let v1539 : BitVec 32 := Scalar.addi v2 c10_i32_1165
  let c16_i32_1166 : BitVec 32 := 16#32
  let v1540 : BitVec 32 := Scalar.remsi v1539 c16_i32_1166
  let c1_i32_1185 : BitVec 32 := 1#32
  let v1564 : BitVec 32 := Scalar.muli v1540 c1_i32_1185
  let v1565 : BitVec 32 := Scalar.addi c0_i32_1186 v1564
  v1565.toNat
def k0_dev71 (d0 : Dev nD) : Nat :=
  let c0_i32_1211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1190 : BitVec 32 := 11#32
  let v1573 : BitVec 32 := Scalar.addi v2 c11_i32_1190
  let c16_i32_1191 : BitVec 32 := 16#32
  let v1574 : BitVec 32 := Scalar.remsi v1573 c16_i32_1191
  let c1_i32_1210 : BitVec 32 := 1#32
  let v1598 : BitVec 32 := Scalar.muli v1574 c1_i32_1210
  let v1599 : BitVec 32 := Scalar.addi c0_i32_1211 v1598
  v1599.toNat
def k0_dev72 (d0 : Dev nD) : Nat :=
  let c0_i32_1236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1215 : BitVec 32 := 12#32
  let v1607 : BitVec 32 := Scalar.addi v2 c12_i32_1215
  let c16_i32_1216 : BitVec 32 := 16#32
  let v1608 : BitVec 32 := Scalar.remsi v1607 c16_i32_1216
  let c1_i32_1235 : BitVec 32 := 1#32
  let v1632 : BitVec 32 := Scalar.muli v1608 c1_i32_1235
  let v1633 : BitVec 32 := Scalar.addi c0_i32_1236 v1632
  v1633.toNat
def k0_dev73 (d0 : Dev nD) : Nat :=
  let c0_i32_1261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1240 : BitVec 32 := 13#32
  let v1641 : BitVec 32 := Scalar.addi v2 c13_i32_1240
  let c16_i32_1241 : BitVec 32 := 16#32
  let v1642 : BitVec 32 := Scalar.remsi v1641 c16_i32_1241
  let c1_i32_1260 : BitVec 32 := 1#32
  let v1666 : BitVec 32 := Scalar.muli v1642 c1_i32_1260
  let v1667 : BitVec 32 := Scalar.addi c0_i32_1261 v1666
  v1667.toNat
def k0_dev74 (d0 : Dev nD) : Nat :=
  let c0_i32_1286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1265 : BitVec 32 := 14#32
  let v1675 : BitVec 32 := Scalar.addi v2 c14_i32_1265
  let c16_i32_1266 : BitVec 32 := 16#32
  let v1676 : BitVec 32 := Scalar.remsi v1675 c16_i32_1266
  let c1_i32_1285 : BitVec 32 := 1#32
  let v1700 : BitVec 32 := Scalar.muli v1676 c1_i32_1285
  let v1701 : BitVec 32 := Scalar.addi c0_i32_1286 v1700
  v1701.toNat
def k0_dev75 (d0 : Dev nD) : Nat :=
  let c0_i32_1311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1290 : BitVec 32 := 15#32
  let v1709 : BitVec 32 := Scalar.addi v2 c15_i32_1290
  let c16_i32_1291 : BitVec 32 := 16#32
  let v1710 : BitVec 32 := Scalar.remsi v1709 c16_i32_1291
  let c1_i32_1310 : BitVec 32 := 1#32
  let v1734 : BitVec 32 := Scalar.muli v1710 c1_i32_1310
  let v1735 : BitVec 32 := Scalar.addi c0_i32_1311 v1734
  v1735.toNat
def k0_dev76 (d0 : Dev nD) : Nat :=
  let c0_i32_1579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1574 : BitVec 32 := 1#32
  let v2049 : BitVec 32 := Scalar.addi v2 c1_i32_1574
  let c16_i32_1575 : BitVec 32 := 16#32
  let v2050 : BitVec 32 := Scalar.remsi v2049 c16_i32_1575
  let c1_i32_1578 : BitVec 32 := 1#32
  let v2052 : BitVec 32 := Scalar.muli v2050 c1_i32_1578
  let v2053 : BitVec 32 := Scalar.addi c0_i32_1579 v2052
  v2053.toNat
def k0_dev77 (d0 : Dev nD) : Nat :=
  let c0_i32_1586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1581 : BitVec 32 := 2#32
  let v2059 : BitVec 32 := Scalar.addi v2 c2_i32_1581
  let c16_i32_1582 : BitVec 32 := 16#32
  let v2060 : BitVec 32 := Scalar.remsi v2059 c16_i32_1582
  let c1_i32_1585 : BitVec 32 := 1#32
  let v2062 : BitVec 32 := Scalar.muli v2060 c1_i32_1585
  let v2063 : BitVec 32 := Scalar.addi c0_i32_1586 v2062
  v2063.toNat
def k0_dev78 (d0 : Dev nD) : Nat :=
  let c0_i32_1593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1588 : BitVec 32 := 3#32
  let v2069 : BitVec 32 := Scalar.addi v2 c3_i32_1588
  let c16_i32_1589 : BitVec 32 := 16#32
  let v2070 : BitVec 32 := Scalar.remsi v2069 c16_i32_1589
  let c1_i32_1592 : BitVec 32 := 1#32
  let v2072 : BitVec 32 := Scalar.muli v2070 c1_i32_1592
  let v2073 : BitVec 32 := Scalar.addi c0_i32_1593 v2072
  v2073.toNat
def k0_dev79 (d0 : Dev nD) : Nat :=
  let c0_i32_1600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1595 : BitVec 32 := 4#32
  let v2079 : BitVec 32 := Scalar.addi v2 c4_i32_1595
  let c16_i32_1596 : BitVec 32 := 16#32
  let v2080 : BitVec 32 := Scalar.remsi v2079 c16_i32_1596
  let c1_i32_1599 : BitVec 32 := 1#32
  let v2082 : BitVec 32 := Scalar.muli v2080 c1_i32_1599
  let v2083 : BitVec 32 := Scalar.addi c0_i32_1600 v2082
  v2083.toNat
def k0_dev80 (d0 : Dev nD) : Nat :=
  let c0_i32_1607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1602 : BitVec 32 := 5#32
  let v2089 : BitVec 32 := Scalar.addi v2 c5_i32_1602
  let c16_i32_1603 : BitVec 32 := 16#32
  let v2090 : BitVec 32 := Scalar.remsi v2089 c16_i32_1603
  let c1_i32_1606 : BitVec 32 := 1#32
  let v2092 : BitVec 32 := Scalar.muli v2090 c1_i32_1606
  let v2093 : BitVec 32 := Scalar.addi c0_i32_1607 v2092
  v2093.toNat
def k0_dev81 (d0 : Dev nD) : Nat :=
  let c0_i32_1614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1609 : BitVec 32 := 6#32
  let v2099 : BitVec 32 := Scalar.addi v2 c6_i32_1609
  let c16_i32_1610 : BitVec 32 := 16#32
  let v2100 : BitVec 32 := Scalar.remsi v2099 c16_i32_1610
  let c1_i32_1613 : BitVec 32 := 1#32
  let v2102 : BitVec 32 := Scalar.muli v2100 c1_i32_1613
  let v2103 : BitVec 32 := Scalar.addi c0_i32_1614 v2102
  v2103.toNat
def k0_dev82 (d0 : Dev nD) : Nat :=
  let c0_i32_1621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1616 : BitVec 32 := 7#32
  let v2109 : BitVec 32 := Scalar.addi v2 c7_i32_1616
  let c16_i32_1617 : BitVec 32 := 16#32
  let v2110 : BitVec 32 := Scalar.remsi v2109 c16_i32_1617
  let c1_i32_1620 : BitVec 32 := 1#32
  let v2112 : BitVec 32 := Scalar.muli v2110 c1_i32_1620
  let v2113 : BitVec 32 := Scalar.addi c0_i32_1621 v2112
  v2113.toNat
def k0_dev83 (d0 : Dev nD) : Nat :=
  let c0_i32_1628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1623 : BitVec 32 := 8#32
  let v2119 : BitVec 32 := Scalar.addi v2 c8_i32_1623
  let c16_i32_1624 : BitVec 32 := 16#32
  let v2120 : BitVec 32 := Scalar.remsi v2119 c16_i32_1624
  let c1_i32_1627 : BitVec 32 := 1#32
  let v2122 : BitVec 32 := Scalar.muli v2120 c1_i32_1627
  let v2123 : BitVec 32 := Scalar.addi c0_i32_1628 v2122
  v2123.toNat
def k0_dev84 (d0 : Dev nD) : Nat :=
  let c0_i32_1635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1630 : BitVec 32 := 9#32
  let v2129 : BitVec 32 := Scalar.addi v2 c9_i32_1630
  let c16_i32_1631 : BitVec 32 := 16#32
  let v2130 : BitVec 32 := Scalar.remsi v2129 c16_i32_1631
  let c1_i32_1634 : BitVec 32 := 1#32
  let v2132 : BitVec 32 := Scalar.muli v2130 c1_i32_1634
  let v2133 : BitVec 32 := Scalar.addi c0_i32_1635 v2132
  v2133.toNat
def k0_dev85 (d0 : Dev nD) : Nat :=
  let c0_i32_1642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1637 : BitVec 32 := 10#32
  let v2139 : BitVec 32 := Scalar.addi v2 c10_i32_1637
  let c16_i32_1638 : BitVec 32 := 16#32
  let v2140 : BitVec 32 := Scalar.remsi v2139 c16_i32_1638
  let c1_i32_1641 : BitVec 32 := 1#32
  let v2142 : BitVec 32 := Scalar.muli v2140 c1_i32_1641
  let v2143 : BitVec 32 := Scalar.addi c0_i32_1642 v2142
  v2143.toNat
def k0_dev86 (d0 : Dev nD) : Nat :=
  let c0_i32_1649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1644 : BitVec 32 := 11#32
  let v2149 : BitVec 32 := Scalar.addi v2 c11_i32_1644
  let c16_i32_1645 : BitVec 32 := 16#32
  let v2150 : BitVec 32 := Scalar.remsi v2149 c16_i32_1645
  let c1_i32_1648 : BitVec 32 := 1#32
  let v2152 : BitVec 32 := Scalar.muli v2150 c1_i32_1648
  let v2153 : BitVec 32 := Scalar.addi c0_i32_1649 v2152
  v2153.toNat
def k0_dev87 (d0 : Dev nD) : Nat :=
  let c0_i32_1656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1651 : BitVec 32 := 12#32
  let v2159 : BitVec 32 := Scalar.addi v2 c12_i32_1651
  let c16_i32_1652 : BitVec 32 := 16#32
  let v2160 : BitVec 32 := Scalar.remsi v2159 c16_i32_1652
  let c1_i32_1655 : BitVec 32 := 1#32
  let v2162 : BitVec 32 := Scalar.muli v2160 c1_i32_1655
  let v2163 : BitVec 32 := Scalar.addi c0_i32_1656 v2162
  v2163.toNat
def k0_dev88 (d0 : Dev nD) : Nat :=
  let c0_i32_1663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1658 : BitVec 32 := 13#32
  let v2169 : BitVec 32 := Scalar.addi v2 c13_i32_1658
  let c16_i32_1659 : BitVec 32 := 16#32
  let v2170 : BitVec 32 := Scalar.remsi v2169 c16_i32_1659
  let c1_i32_1662 : BitVec 32 := 1#32
  let v2172 : BitVec 32 := Scalar.muli v2170 c1_i32_1662
  let v2173 : BitVec 32 := Scalar.addi c0_i32_1663 v2172
  v2173.toNat
def k0_dev89 (d0 : Dev nD) : Nat :=
  let c0_i32_1670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1665 : BitVec 32 := 14#32
  let v2179 : BitVec 32 := Scalar.addi v2 c14_i32_1665
  let c16_i32_1666 : BitVec 32 := 16#32
  let v2180 : BitVec 32 := Scalar.remsi v2179 c16_i32_1666
  let c1_i32_1669 : BitVec 32 := 1#32
  let v2182 : BitVec 32 := Scalar.muli v2180 c1_i32_1669
  let v2183 : BitVec 32 := Scalar.addi c0_i32_1670 v2182
  v2183.toNat
def k0_dev90 (d0 : Dev nD) : Nat :=
  let c0_i32_1677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1672 : BitVec 32 := 15#32
  let v2189 : BitVec 32 := Scalar.addi v2 c15_i32_1672
  let c16_i32_1673 : BitVec 32 := 16#32
  let v2190 : BitVec 32 := Scalar.remsi v2189 c16_i32_1673
  let c1_i32_1676 : BitVec 32 := 1#32
  let v2192 : BitVec 32 := Scalar.muli v2190 c1_i32_1676
  let v2193 : BitVec 32 := Scalar.addi c0_i32_1677 v2192
  v2193.toNat
def k0_dev91 (d0 : Dev nD) : Nat :=
  let c0_i32_1717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1696 : BitVec 32 := 1#32
  let v2223 : BitVec 32 := Scalar.addi v2 c1_i32_1696
  let c16_i32_1697 : BitVec 32 := 16#32
  let v2224 : BitVec 32 := Scalar.remsi v2223 c16_i32_1697
  let c1_i32_1716 : BitVec 32 := 1#32
  let v2248 : BitVec 32 := Scalar.muli v2224 c1_i32_1716
  let v2249 : BitVec 32 := Scalar.addi c0_i32_1717 v2248
  v2249.toNat
def k0_dev92 (d0 : Dev nD) : Nat :=
  let c0_i32_1742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1721 : BitVec 32 := 2#32
  let v2257 : BitVec 32 := Scalar.addi v2 c2_i32_1721
  let c16_i32_1722 : BitVec 32 := 16#32
  let v2258 : BitVec 32 := Scalar.remsi v2257 c16_i32_1722
  let c1_i32_1741 : BitVec 32 := 1#32
  let v2282 : BitVec 32 := Scalar.muli v2258 c1_i32_1741
  let v2283 : BitVec 32 := Scalar.addi c0_i32_1742 v2282
  v2283.toNat
def k0_dev93 (d0 : Dev nD) : Nat :=
  let c0_i32_1767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1746 : BitVec 32 := 3#32
  let v2291 : BitVec 32 := Scalar.addi v2 c3_i32_1746
  let c16_i32_1747 : BitVec 32 := 16#32
  let v2292 : BitVec 32 := Scalar.remsi v2291 c16_i32_1747
  let c1_i32_1766 : BitVec 32 := 1#32
  let v2316 : BitVec 32 := Scalar.muli v2292 c1_i32_1766
  let v2317 : BitVec 32 := Scalar.addi c0_i32_1767 v2316
  v2317.toNat
def k0_dev94 (d0 : Dev nD) : Nat :=
  let c0_i32_1792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1771 : BitVec 32 := 4#32
  let v2325 : BitVec 32 := Scalar.addi v2 c4_i32_1771
  let c16_i32_1772 : BitVec 32 := 16#32
  let v2326 : BitVec 32 := Scalar.remsi v2325 c16_i32_1772
  let c1_i32_1791 : BitVec 32 := 1#32
  let v2350 : BitVec 32 := Scalar.muli v2326 c1_i32_1791
  let v2351 : BitVec 32 := Scalar.addi c0_i32_1792 v2350
  v2351.toNat
def k0_dev95 (d0 : Dev nD) : Nat :=
  let c0_i32_1817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1796 : BitVec 32 := 5#32
  let v2359 : BitVec 32 := Scalar.addi v2 c5_i32_1796
  let c16_i32_1797 : BitVec 32 := 16#32
  let v2360 : BitVec 32 := Scalar.remsi v2359 c16_i32_1797
  let c1_i32_1816 : BitVec 32 := 1#32
  let v2384 : BitVec 32 := Scalar.muli v2360 c1_i32_1816
  let v2385 : BitVec 32 := Scalar.addi c0_i32_1817 v2384
  v2385.toNat
def k0_dev96 (d0 : Dev nD) : Nat :=
  let c0_i32_1842 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1821 : BitVec 32 := 6#32
  let v2393 : BitVec 32 := Scalar.addi v2 c6_i32_1821
  let c16_i32_1822 : BitVec 32 := 16#32
  let v2394 : BitVec 32 := Scalar.remsi v2393 c16_i32_1822
  let c1_i32_1841 : BitVec 32 := 1#32
  let v2418 : BitVec 32 := Scalar.muli v2394 c1_i32_1841
  let v2419 : BitVec 32 := Scalar.addi c0_i32_1842 v2418
  v2419.toNat
def k0_dev97 (d0 : Dev nD) : Nat :=
  let c0_i32_1867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1846 : BitVec 32 := 7#32
  let v2427 : BitVec 32 := Scalar.addi v2 c7_i32_1846
  let c16_i32_1847 : BitVec 32 := 16#32
  let v2428 : BitVec 32 := Scalar.remsi v2427 c16_i32_1847
  let c1_i32_1866 : BitVec 32 := 1#32
  let v2452 : BitVec 32 := Scalar.muli v2428 c1_i32_1866
  let v2453 : BitVec 32 := Scalar.addi c0_i32_1867 v2452
  v2453.toNat
def k0_dev98 (d0 : Dev nD) : Nat :=
  let c0_i32_1892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1871 : BitVec 32 := 8#32
  let v2461 : BitVec 32 := Scalar.addi v2 c8_i32_1871
  let c16_i32_1872 : BitVec 32 := 16#32
  let v2462 : BitVec 32 := Scalar.remsi v2461 c16_i32_1872
  let c1_i32_1891 : BitVec 32 := 1#32
  let v2486 : BitVec 32 := Scalar.muli v2462 c1_i32_1891
  let v2487 : BitVec 32 := Scalar.addi c0_i32_1892 v2486
  v2487.toNat
def k0_dev99 (d0 : Dev nD) : Nat :=
  let c0_i32_1917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1896 : BitVec 32 := 9#32
  let v2495 : BitVec 32 := Scalar.addi v2 c9_i32_1896
  let c16_i32_1897 : BitVec 32 := 16#32
  let v2496 : BitVec 32 := Scalar.remsi v2495 c16_i32_1897
  let c1_i32_1916 : BitVec 32 := 1#32
  let v2520 : BitVec 32 := Scalar.muli v2496 c1_i32_1916
  let v2521 : BitVec 32 := Scalar.addi c0_i32_1917 v2520
  v2521.toNat
def k0_dev100 (d0 : Dev nD) : Nat :=
  let c0_i32_1942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1921 : BitVec 32 := 10#32
  let v2529 : BitVec 32 := Scalar.addi v2 c10_i32_1921
  let c16_i32_1922 : BitVec 32 := 16#32
  let v2530 : BitVec 32 := Scalar.remsi v2529 c16_i32_1922
  let c1_i32_1941 : BitVec 32 := 1#32
  let v2554 : BitVec 32 := Scalar.muli v2530 c1_i32_1941
  let v2555 : BitVec 32 := Scalar.addi c0_i32_1942 v2554
  v2555.toNat
def k0_dev101 (d0 : Dev nD) : Nat :=
  let c0_i32_1967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1946 : BitVec 32 := 11#32
  let v2563 : BitVec 32 := Scalar.addi v2 c11_i32_1946
  let c16_i32_1947 : BitVec 32 := 16#32
  let v2564 : BitVec 32 := Scalar.remsi v2563 c16_i32_1947
  let c1_i32_1966 : BitVec 32 := 1#32
  let v2588 : BitVec 32 := Scalar.muli v2564 c1_i32_1966
  let v2589 : BitVec 32 := Scalar.addi c0_i32_1967 v2588
  v2589.toNat
def k0_dev102 (d0 : Dev nD) : Nat :=
  let c0_i32_1992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1971 : BitVec 32 := 12#32
  let v2597 : BitVec 32 := Scalar.addi v2 c12_i32_1971
  let c16_i32_1972 : BitVec 32 := 16#32
  let v2598 : BitVec 32 := Scalar.remsi v2597 c16_i32_1972
  let c1_i32_1991 : BitVec 32 := 1#32
  let v2622 : BitVec 32 := Scalar.muli v2598 c1_i32_1991
  let v2623 : BitVec 32 := Scalar.addi c0_i32_1992 v2622
  v2623.toNat
def k0_dev103 (d0 : Dev nD) : Nat :=
  let c0_i32_2017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1996 : BitVec 32 := 13#32
  let v2631 : BitVec 32 := Scalar.addi v2 c13_i32_1996
  let c16_i32_1997 : BitVec 32 := 16#32
  let v2632 : BitVec 32 := Scalar.remsi v2631 c16_i32_1997
  let c1_i32_2016 : BitVec 32 := 1#32
  let v2656 : BitVec 32 := Scalar.muli v2632 c1_i32_2016
  let v2657 : BitVec 32 := Scalar.addi c0_i32_2017 v2656
  v2657.toNat
def k0_dev104 (d0 : Dev nD) : Nat :=
  let c0_i32_2042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2021 : BitVec 32 := 14#32
  let v2665 : BitVec 32 := Scalar.addi v2 c14_i32_2021
  let c16_i32_2022 : BitVec 32 := 16#32
  let v2666 : BitVec 32 := Scalar.remsi v2665 c16_i32_2022
  let c1_i32_2041 : BitVec 32 := 1#32
  let v2690 : BitVec 32 := Scalar.muli v2666 c1_i32_2041
  let v2691 : BitVec 32 := Scalar.addi c0_i32_2042 v2690
  v2691.toNat
def k0_dev105 (d0 : Dev nD) : Nat :=
  let c0_i32_2067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2046 : BitVec 32 := 15#32
  let v2699 : BitVec 32 := Scalar.addi v2 c15_i32_2046
  let c16_i32_2047 : BitVec 32 := 16#32
  let v2700 : BitVec 32 := Scalar.remsi v2699 c16_i32_2047
  let c1_i32_2066 : BitVec 32 := 1#32
  let v2724 : BitVec 32 := Scalar.muli v2700 c1_i32_2066
  let v2725 : BitVec 32 := Scalar.addi c0_i32_2067 v2724
  v2725.toNat
def k0_dev106 (d0 : Dev nD) : Nat :=
  let c0_i32_2335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2330 : BitVec 32 := 1#32
  let v3039 : BitVec 32 := Scalar.addi v2 c1_i32_2330
  let c16_i32_2331 : BitVec 32 := 16#32
  let v3040 : BitVec 32 := Scalar.remsi v3039 c16_i32_2331
  let c1_i32_2334 : BitVec 32 := 1#32
  let v3042 : BitVec 32 := Scalar.muli v3040 c1_i32_2334
  let v3043 : BitVec 32 := Scalar.addi c0_i32_2335 v3042
  v3043.toNat
def k0_dev107 (d0 : Dev nD) : Nat :=
  let c0_i32_2342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2337 : BitVec 32 := 2#32
  let v3049 : BitVec 32 := Scalar.addi v2 c2_i32_2337
  let c16_i32_2338 : BitVec 32 := 16#32
  let v3050 : BitVec 32 := Scalar.remsi v3049 c16_i32_2338
  let c1_i32_2341 : BitVec 32 := 1#32
  let v3052 : BitVec 32 := Scalar.muli v3050 c1_i32_2341
  let v3053 : BitVec 32 := Scalar.addi c0_i32_2342 v3052
  v3053.toNat
def k0_dev108 (d0 : Dev nD) : Nat :=
  let c0_i32_2349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2344 : BitVec 32 := 3#32
  let v3059 : BitVec 32 := Scalar.addi v2 c3_i32_2344
  let c16_i32_2345 : BitVec 32 := 16#32
  let v3060 : BitVec 32 := Scalar.remsi v3059 c16_i32_2345
  let c1_i32_2348 : BitVec 32 := 1#32
  let v3062 : BitVec 32 := Scalar.muli v3060 c1_i32_2348
  let v3063 : BitVec 32 := Scalar.addi c0_i32_2349 v3062
  v3063.toNat
def k0_dev109 (d0 : Dev nD) : Nat :=
  let c0_i32_2356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2351 : BitVec 32 := 4#32
  let v3069 : BitVec 32 := Scalar.addi v2 c4_i32_2351
  let c16_i32_2352 : BitVec 32 := 16#32
  let v3070 : BitVec 32 := Scalar.remsi v3069 c16_i32_2352
  let c1_i32_2355 : BitVec 32 := 1#32
  let v3072 : BitVec 32 := Scalar.muli v3070 c1_i32_2355
  let v3073 : BitVec 32 := Scalar.addi c0_i32_2356 v3072
  v3073.toNat
def k0_dev110 (d0 : Dev nD) : Nat :=
  let c0_i32_2363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2358 : BitVec 32 := 5#32
  let v3079 : BitVec 32 := Scalar.addi v2 c5_i32_2358
  let c16_i32_2359 : BitVec 32 := 16#32
  let v3080 : BitVec 32 := Scalar.remsi v3079 c16_i32_2359
  let c1_i32_2362 : BitVec 32 := 1#32
  let v3082 : BitVec 32 := Scalar.muli v3080 c1_i32_2362
  let v3083 : BitVec 32 := Scalar.addi c0_i32_2363 v3082
  v3083.toNat
def k0_dev111 (d0 : Dev nD) : Nat :=
  let c0_i32_2370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2365 : BitVec 32 := 6#32
  let v3089 : BitVec 32 := Scalar.addi v2 c6_i32_2365
  let c16_i32_2366 : BitVec 32 := 16#32
  let v3090 : BitVec 32 := Scalar.remsi v3089 c16_i32_2366
  let c1_i32_2369 : BitVec 32 := 1#32
  let v3092 : BitVec 32 := Scalar.muli v3090 c1_i32_2369
  let v3093 : BitVec 32 := Scalar.addi c0_i32_2370 v3092
  v3093.toNat
def k0_dev112 (d0 : Dev nD) : Nat :=
  let c0_i32_2377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2372 : BitVec 32 := 7#32
  let v3099 : BitVec 32 := Scalar.addi v2 c7_i32_2372
  let c16_i32_2373 : BitVec 32 := 16#32
  let v3100 : BitVec 32 := Scalar.remsi v3099 c16_i32_2373
  let c1_i32_2376 : BitVec 32 := 1#32
  let v3102 : BitVec 32 := Scalar.muli v3100 c1_i32_2376
  let v3103 : BitVec 32 := Scalar.addi c0_i32_2377 v3102
  v3103.toNat
def k0_dev113 (d0 : Dev nD) : Nat :=
  let c0_i32_2384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2379 : BitVec 32 := 8#32
  let v3109 : BitVec 32 := Scalar.addi v2 c8_i32_2379
  let c16_i32_2380 : BitVec 32 := 16#32
  let v3110 : BitVec 32 := Scalar.remsi v3109 c16_i32_2380
  let c1_i32_2383 : BitVec 32 := 1#32
  let v3112 : BitVec 32 := Scalar.muli v3110 c1_i32_2383
  let v3113 : BitVec 32 := Scalar.addi c0_i32_2384 v3112
  v3113.toNat
def k0_dev114 (d0 : Dev nD) : Nat :=
  let c0_i32_2391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2386 : BitVec 32 := 9#32
  let v3119 : BitVec 32 := Scalar.addi v2 c9_i32_2386
  let c16_i32_2387 : BitVec 32 := 16#32
  let v3120 : BitVec 32 := Scalar.remsi v3119 c16_i32_2387
  let c1_i32_2390 : BitVec 32 := 1#32
  let v3122 : BitVec 32 := Scalar.muli v3120 c1_i32_2390
  let v3123 : BitVec 32 := Scalar.addi c0_i32_2391 v3122
  v3123.toNat
def k0_dev115 (d0 : Dev nD) : Nat :=
  let c0_i32_2398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2393 : BitVec 32 := 10#32
  let v3129 : BitVec 32 := Scalar.addi v2 c10_i32_2393
  let c16_i32_2394 : BitVec 32 := 16#32
  let v3130 : BitVec 32 := Scalar.remsi v3129 c16_i32_2394
  let c1_i32_2397 : BitVec 32 := 1#32
  let v3132 : BitVec 32 := Scalar.muli v3130 c1_i32_2397
  let v3133 : BitVec 32 := Scalar.addi c0_i32_2398 v3132
  v3133.toNat
def k0_dev116 (d0 : Dev nD) : Nat :=
  let c0_i32_2405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2400 : BitVec 32 := 11#32
  let v3139 : BitVec 32 := Scalar.addi v2 c11_i32_2400
  let c16_i32_2401 : BitVec 32 := 16#32
  let v3140 : BitVec 32 := Scalar.remsi v3139 c16_i32_2401
  let c1_i32_2404 : BitVec 32 := 1#32
  let v3142 : BitVec 32 := Scalar.muli v3140 c1_i32_2404
  let v3143 : BitVec 32 := Scalar.addi c0_i32_2405 v3142
  v3143.toNat
def k0_dev117 (d0 : Dev nD) : Nat :=
  let c0_i32_2412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2407 : BitVec 32 := 12#32
  let v3149 : BitVec 32 := Scalar.addi v2 c12_i32_2407
  let c16_i32_2408 : BitVec 32 := 16#32
  let v3150 : BitVec 32 := Scalar.remsi v3149 c16_i32_2408
  let c1_i32_2411 : BitVec 32 := 1#32
  let v3152 : BitVec 32 := Scalar.muli v3150 c1_i32_2411
  let v3153 : BitVec 32 := Scalar.addi c0_i32_2412 v3152
  v3153.toNat
def k0_dev118 (d0 : Dev nD) : Nat :=
  let c0_i32_2419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2414 : BitVec 32 := 13#32
  let v3159 : BitVec 32 := Scalar.addi v2 c13_i32_2414
  let c16_i32_2415 : BitVec 32 := 16#32
  let v3160 : BitVec 32 := Scalar.remsi v3159 c16_i32_2415
  let c1_i32_2418 : BitVec 32 := 1#32
  let v3162 : BitVec 32 := Scalar.muli v3160 c1_i32_2418
  let v3163 : BitVec 32 := Scalar.addi c0_i32_2419 v3162
  v3163.toNat
def k0_dev119 (d0 : Dev nD) : Nat :=
  let c0_i32_2426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2421 : BitVec 32 := 14#32
  let v3169 : BitVec 32 := Scalar.addi v2 c14_i32_2421
  let c16_i32_2422 : BitVec 32 := 16#32
  let v3170 : BitVec 32 := Scalar.remsi v3169 c16_i32_2422
  let c1_i32_2425 : BitVec 32 := 1#32
  let v3172 : BitVec 32 := Scalar.muli v3170 c1_i32_2425
  let v3173 : BitVec 32 := Scalar.addi c0_i32_2426 v3172
  v3173.toNat
def k0_dev120 (d0 : Dev nD) : Nat :=
  let c0_i32_2433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2428 : BitVec 32 := 15#32
  let v3179 : BitVec 32 := Scalar.addi v2 c15_i32_2428
  let c16_i32_2429 : BitVec 32 := 16#32
  let v3180 : BitVec 32 := Scalar.remsi v3179 c16_i32_2429
  let c1_i32_2432 : BitVec 32 := 1#32
  let v3182 : BitVec 32 := Scalar.muli v3180 c1_i32_2432
  let v3183 : BitVec 32 := Scalar.addi c0_i32_2433 v3182
  v3183.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S1024x512 : Shape := ⟨2, ![1024, 512]⟩
abbrev S512x16384 : Shape := ⟨2, ![512, 16384]⟩
abbrev S16384x512 : Shape := ⟨2, ![16384, 512]⟩
abbrev S1024x16384 : Shape := ⟨2, ![1024, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x16384, .f32⟩
  | .hbm, ⟨2, _⟩ => ⟨S512x16384, .f32⟩
  | .hbm, ⟨3, _⟩ => ⟨S512x16384, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S1024x16384, .f32⟩
  | .hbm, ⟨8, _⟩ => ⟨S_, .f32⟩
  | .hbm, ⟨9, _⟩ => ⟨S1024x16384, .f32⟩
  | .hbm, ⟨10, _⟩ => ⟨S1024x16384, .f32⟩
  | .hbm, ⟨11, _⟩ => ⟨S1024x512, .f32⟩
  | .hbm, ⟨12, _⟩ => ⟨S1024x16384, .f32⟩
  | .hbm, ⟨13, _⟩ => ⟨S_, .f32⟩
  | .hbm, ⟨14, _⟩ => ⟨S1024x16384, .f32⟩
  | .hbm, ⟨15, _⟩ => ⟨S1024x16384, .f32⟩
  | .hbm, ⟨16, _⟩ => ⟨S1024x512, .f32⟩
  | .hbm, ⟨17, _⟩ => ⟨S1024x16384, .f32⟩
  | .hbm, ⟨18, _⟩ => ⟨S_, .f32⟩
  | .hbm, ⟨19, _⟩ => ⟨S1024x16384, .f32⟩
  | .hbm, ⟨20, _⟩ => ⟨S1024x16384, .f32⟩
  | .hbm, ⟨21, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Proto.lean ====
/-
# The protocol: values, cells, contents and the schedule

Sixteen devices, three layers.  In layer `l` every device copies its rows of the activations into every
peer (the gather), multiplies each row block by its columns of the first weight and its rows of the second,
and copies each product row block to the device it belongs to (the scatter), which adds the sixteen up.
A last gather assembles the result.

Per device there is the barrier cell and four families of sixteen copy cells: gather departures, gather
arrivals, scatter departures and scatter arrivals.  Departure cell `k` counts copies to the peer `k` places
on; arrival cell `s` counts copies from device `s`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.TalkSites
public import Idealize.ShloMosaic.Lib.ShareLeaves
public import Idealize.ShloMosaic.Lib.Tactic

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.TalkSites (Pay tallyL addL addL_eq tallyL_append tallyL_pos mayWait_addL)
open Idealize.ShloMosaic.SiteBlocks (L lv)

variable {F : FTy → Type} [FloatOps F]

/-! ## The resource algebra -/

abbrev UB : Type := URounds (GSem nD τ sig) (Dev nD)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## Peers -/

/-- The device `k` places on. -/
def pr (c : Dev nD) (k : ℕ) : Dev nD := ⟨(c.val + k) % 16, Nat.mod_lt _ (by decide)⟩
/-- The number `k` as an index of a family of sixteen. -/
def kd (k : ℕ) : Dev nD := ⟨k % 16, Nat.mod_lt _ (by decide)⟩

theorem pr_val (c : Dev nD) (k : ℕ) : (pr c k).val = (c.val + k) % 16 := rfl
theorem kd_val (k : ℕ) : (kd k).val = k % 16 := rfl
theorem dev_lt (c : Dev nD) : c.val < 16 := c.isLt

theorem pr_ne (c : Dev nD) {k : ℕ} (h1 : 1 ≤ k) (h2 : k < 16) : pr c k ≠ c := fun h => by
  have := congrArg Fin.val h; rw [pr_val] at this; have := dev_lt c; omega

theorem kd_ne_zero {k : ℕ} (h1 : 1 ≤ k) (h2 : k < 16) : kd k ≠ 0 := fun h => by
  have := congrArg Fin.val h; rw [kd_val] at this
  have h0 : ((0 : Dev nD) : Fin nD).val = 0 := rfl
  omega

/-! ## The buffers, their row blocks and slots -/

abbrev xM : Memref sig .tc .vmem S64x512 .f32 := Memref.whole cc0_stg0_0
abbrev wi0M : Memref sig .tc .vmem S512x1024 .f32 := Memref.whole cc0_stg1_0
abbrev wo0M : Memref sig .tc .vmem S1024x512 .f32 := Memref.whole cc0_stg2_0
abbrev wi1M : Memref sig .tc .vmem S512x1024 .f32 := Memref.whole cc0_stg3_0
abbrev wo1M : Memref sig .tc .vmem S1024x512 .f32 := Memref.whole cc0_stg4_0
abbrev wi2M : Memref sig .tc .vmem S512x1024 .f32 := Memref.whole cc0_stg5_0
abbrev wo2M : Memref sig .tc .vmem S1024x512 .f32 := Memref.whole cc0_stg6_0
abbrev outM : Memref sig .tc .vmem S1024x512 .f32 := Memref.whole cc0_stg7_0
abbrev xfM : Memref sig .tc .vmem S1024x512 .f32 := Memref.whole cc0_scratch0
abbrev ptM : Memref sig .tc .vmem S1024x512 .f32 := Memref.whole cc0_scratch1
abbrev rbM : Memref sig .tc .vmem S16x64x512 .f32 := Memref.whole cc0_scratch2
abbrev msM : Memref sig .tc .vmem S64x512 .f32 := Memref.whole cc0_scratch3

theorem row_inb (s : Dev nD) : ∀ a, (![64 * s.val, 0] : Fin 2 → ℕ) a + S64x512.size a ≤ S1024x512.size a := by
  revert s; decide
theorem slot_inb (s : Dev nD) : ∀ a, (![s.val, 0, 0] : Fin 3 → ℕ) a + S1x64x512.size a ≤ S16x64x512.size a := by
  revert s; decide

/-- Rows `64 s … 64 s + 63`. -/
abbrev rowR (s : Dev nD) : Rect S1024x512 := Rect.unit (s := S1024x512) ![64 * s.val, 0] S64x512.size (row_inb s)
/-- Row block `s` of a buffer of 1024 rows. -/
abbrev row (b : Memref sig .tc .vmem S1024x512 .f32) (s : Dev nD) : Memref sig .tc .vmem S64x512 .f32 :=
  b.slice (rowR s) (fun _ => rfl)
/-- Slot `s` of the scatter buffer, as a 1×64×512 slice … -/
abbrev slotR (s : Dev nD) : Rect S16x64x512 := Rect.unit (s := S16x64x512) ![s.val, 0, 0] S1x64x512.size (slot_inb s)
abbrev slot3 (s : Dev nD) : Memref sig .tc .vmem S1x64x512 .f32 := rbM.slice (slotR s) (fun _ => rfl)
/-- … and as a block of 64 rows. -/
abbrev slot (s : Dev nD) : Memref sig .tc .vmem S64x512 .f32 := (slot3 s).squeeze S64x512 squeezes_S1x64x512_S64x512

/-- What one row-block copy credits. -/
abbrev N : ℕ := (msM : Memref sig .tc .vmem S64x512 .f32).view.dmaCredit
theorem N_pos : 0 < N := View.dmaCredit_pos _ (by decide)

/-! ## Values -/

/-- A row block of activations. -/
abbrev Blk (F : FTy → Type) [FloatOps F] : Type := S64x512.Idx → Elt F .f32

/-- Device `c`'s rows of the input, -/
def x0 (c : Dev nD) : Blk F := m ((c : Thread nD τ).loc main_arg0)
/-- its columns of layer `l`'s first weight, -/
def Wi (l : ℕ) (c : Dev nD) : S512x1024.Idx → Elt F .f32 := match l with
  | 0 => m ((c : Thread nD τ).loc main_arg1)
  | 1 => m ((c : Thread nD τ).loc main_arg2)
  | _ => m ((c : Thread nD τ).loc main_arg3)
/-- and its rows of layer `l`'s second. -/
def Wo (l : ℕ) (c : Dev nD) : S1024x512.Idx → Elt F .f32 := match l with
  | 0 => m ((c : Thread nD τ).loc main_arg4)
  | 1 => m ((c : Thread nD τ).loc main_arg5)
  | _ => m ((c : Thread nD τ).loc main_arg6)

/-- One device's part of a layer on one row block. -/
def partOf (X : Blk F) (A : S512x1024.Idx → Elt F .f32) (B : S1024x512.Idx → Elt F .f32) : Blk F := k0_pay5 X A B

/-- The parts of the first `k` peers added to one's own, in order. -/
def redOf (p : Dev nD → Blk F) (c : Dev nD) : ℕ → Blk F
  | 0 => p c
  | k + 1 => Idealize.ShloMosaic.addf (redOf p c k) (p (pr c (k + 1)))

/-- Row block `c` of the activations entering layer `l`. -/
def Xv : ℕ → Dev nD → Blk F
  | 0, c => x0 m c
  | l + 1, c => redOf (fun d => partOf (Xv l c) (Wi m l d) (Wo m l d)) c 15

/-- Device `d`'s part of layer `l` on row block `s`. -/
def Pv (l : ℕ) (d s : Dev nD) : Blk F := partOf (Xv m l s) (Wi m l d) (Wo m l d)

/-! ## Cells -/

/-- The barrier semaphore. -/
abbrev barS : Sem sig := (SemArray.scalar (sig.barrier 0 rfl) : Sems sig S_).sem
/-- Copy cell `x` of family `j`. -/
def smN (j : Fin 4) (x : Dev nD) : DmaSem sig := ⟨8 + 16 * j.val + x.val, by have := dev_lt x; have := j.isLt; show _ < 72; omega⟩

abbrev barCell (c : Dev nD) : GSem nD τ sig := ((c : Thread nD τ), .reg barS)
abbrev cell (j : Fin 4) (c x : Dev nD) : GSem nD τ sig := ((c : Thread nD τ), .dma (smN j x))

/-! ## Assertions -/

/-- Device `c` owns the memref, which reads `X`. -/
abbrev own (c : Dev nD) {s : Shape} (M : Memref sig .tc .vmem s .f32) (X : s.Idx → Elt F .f32) : sProp 𝕄 :=
  owns (c : Thread nD τ) M fullShare X
/-- Device `c` owns the memref at some contents. -/
def anyO (c : Dev nD) {s : Shape} (M : Memref sig .tc .vmem s .f32) : sProp 𝕄 := iprop(∃ X, own (F := F) c M X)

instance anyO_storable (c : Dev nD) {s : Shape} (M : Memref sig .tc .vmem s .f32) :
    BI.Storable (upEmb : UEmb _ 𝕄) (anyO (F := F) c M) := by unfold anyO; infer_instance

/-- Share `k` of the sixteen the slice is dealt in. -/
def lf (k : ℕ) : PosShare TreeShare := ShareLeaves.leaf 4 fullShare (kd k)
/-- Share `k` of device `c`'s slice, holding `X`. -/
abbrev ms (c : Dev nD) (k : ℕ) (X : Blk F) : sProp 𝕄 := owns (c : Thread nD τ) msM (lf k) X

/-- The number of places from `s` on to `t`. -/
def gap (s t : Dev nD) : ℕ := (t.val + 16 - s.val) % 16

theorem gap_pr (c : Dev nD) {k : ℕ} (h : k < 16) : gap c (pr c k) = k := by
  unfold gap; rw [pr_val]; have := dev_lt c; omega

/-! ## Payloads -/

/-- What device `d` hands device `c` at the barrier: `d`'s row blocks `c`, and that its arrival cell is open. -/
def barPay (c d : Dev nD) : sProp 𝕄 :=
  iprop(anyO (F := F) d (row xfM c) ∗ anyO (F := F) d (row outM c) ∗ reached ER (cell 1 d c) 0)

/-- What the gather copy from `s` hands `t` in round `r`: in a layer, `s`'s rows, `s`'s slot for `t`'s parts, the share
    of `s`'s slice the copy read and that `s`'s scatter arrival cell is open; in the last round, `s`'s rows of the result. -/
def agPay (t s : Dev nD) (r : ℕ) : sProp 𝕄 :=
  if r < 3 then iprop(own t (row xfM s) (Xv m r s) ∗ anyO (F := F) s (slot t) ∗ ms s (gap s t) (Xv m r s) ∗ reached ER (cell 3 s t) r)
  else own t (row outM s) (Xv m r s)

/-- What the scatter copy from `s` hands `t` in round `r`: `s`'s part on `t`'s rows, the share of `t`'s slice back, and,
    unless it is the last, `s`'s row block `t` for the next gather and that `s`'s gather arrival cell is open. -/
def rsPay (t s : Dev nD) (r : ℕ) : sProp 𝕄 :=
  iprop(own t (slot s) (Pv m r s t) ∗ ms t (gap t s) (Xv m r t)
    ∗ (if r < 2 then anyO (F := F) s (row xfM t) else iprop(emp)) ∗ reached ER (cell 1 s t) (r + 1))

/-- A departed gather copy gives nothing back but in the last round, the share of the slice. -/
def agsPay (c x : Dev nD) (r : ℕ) : sProp 𝕄 := if r < 3 then iprop(emp) else ms c x.val (Xv m r c)
/-- A departed scatter copy gives its source row block back. -/
def rssPay (c x : Dev nD) (r : ℕ) : sProp 𝕄 := anyO (F := F) c (row ptM (pr c x.val))

instance barPay_storable (c d : Dev nD) : BI.Storable (upEmb : UEmb _ 𝕄) (barPay (F := F) c d) := by unfold barPay; infer_instance
instance agPay_storable (t s : Dev nD) (r : ℕ) : BI.Storable (upEmb : UEmb _ 𝕄) (agPay (F := F) m t s r) := by
  unfold agPay; split <;> infer_instance
instance rsPay_storable (t s : Dev nD) (r : ℕ) : BI.Storable (upEmb : UEmb _ 𝕄) (rsPay (F := F) m t s r) := by
  unfold rsPay; split <;> infer_instance
instance agsPay_storable (c x : Dev nD) (r : ℕ) : BI.Storable (upEmb : UEmb _ 𝕄) (agsPay (F := F) m c x r) := by
  unfold agsPay; split <;> infer_instance
instance rssPay_storable (c x : Dev nD) (r : ℕ) : BI.Storable (upEmb : UEmb _ 𝕄) (rssPay (F := F) c x r) := by
  unfold rssPay; infer_instance

/-! ## The schedule -/

/-- How many rounds family `j` goes. -/
def rds (j : ℕ) : ℕ := if j < 2 then 4 else 3
/-- Which cells of family `j` on device `c` are used: departures all but 0, arrivals all but one's own. -/
def used (j : ℕ) (c x : Dev nD) : Prop := if j % 2 = 0 then x ≠ 0 else x ≠ c
instance (j : ℕ) (c x : Dev nD) : Decidable (used j c x) := by unfold used; infer_instance

def dutD (j : ℕ) (c x : Dev nD) (r : ℕ) : Finset (Dev nD) := if used j c x ∧ r < rds j then {0} else ∅
def payD (j : ℕ) (c x : Dev nD) (r : ℕ) : sProp 𝕄 := match j with
  | 0 => agsPay m c x r
  | 1 => agPay m c x r
  | 2 => rssPay (F := F) c x r
  | _ => rsPay m c x r

instance payD_storable (j : ℕ) (c x : Dev nD) (r : ℕ) : BI.Storable (upEmb : UEmb _ 𝕄) (payD (F := F) m j c x r) := by
  unfold payD; split <;> infer_instance

/-- Round 0 of the barrier cell has a duty of one unit per peer; a used copy cell has one duty a round. -/
def Rd : Rounds.Schedule (GSem nD τ sig) (Dev nD) 𝕄 where
  duties g r := match g.2 with
    | .reg _ => if g.1.2 = .tc ∧ r = 0 then Finset.univ.erase g.1.1 else ∅
    | .dma q => if g.1.2 = .tc ∧ 8 ≤ q.val then dutD ((q.val - 8) / 16) g.1.1 (kd (q.val - 8)) r else ∅
  unitless _ := False
  amount g _ _ := match g.2 with
    | .reg _ => 1
    | .dma _ => N
  payload g r d := match g.2 with
    | .reg _ => barPay (F := F) g.1.1 d
    | .dma q => payD m ((q.val - 8) / 16) g.1.1 (kd (q.val - 8)) r
  amount_pos g _ _ _ := by
    rcases g with ⟨t, s | q⟩
    · exact Nat.one_pos
    · exact N_pos

instance Rd_storable (g : GSem nD τ sig) (r : ℕ) (d : Dev nD) : BI.Storable (upEmb : UEmb _ 𝕄) ((Rd (F := F) m).payload g r d) := by
  rcases g with ⟨t, s | q⟩
  · exact barPay_storable _ _
  · exact payD_storable m _ _ _ _

section Tables

variable (j : Fin 4) (c x : Dev nD) (r : ℕ)

theorem smN_div : ((smN j x).val - 8) / 16 = j.val := by have := dev_lt x; unfold smN; dsimp only; omega
theorem smN_kd : kd ((smN j x).val - 8) = x := by
  apply Fin.ext; rw [kd_val]; have := dev_lt x; unfold smN; dsimp only; omega
theorem smN_ge : 8 ≤ (smN j x).val := by unfold smN; dsimp only; omega

theorem duties_cell : (Rd (F := F) m).duties (cell j c x) r = dutD j c x r := by
  show (if _ ∧ 8 ≤ (smN j x).val then dutD (((smN j x).val - 8) / 16) c (kd ((smN j x).val - 8)) r else ∅) = _
  rw [smN_div, smN_kd, if_pos ⟨rfl, smN_ge j x⟩]
theorem payload_cell (d : Dev nD) : (Rd (F := F) m).payload (cell j c x) r d = payD m j c x r := by
  show payD m (((smN j x).val - 8) / 16) c (kd ((smN j x).val - 8)) r = _
  rw [smN_div, smN_kd]
theorem amount_cell (d : Dev nD) : (Rd (F := F) m).amount (cell j c x) r d = N := rfl

theorem duties_bar : (Rd (F := F) m).duties (barCell c) 0 = Finset.univ.erase c :=
  (if_pos ⟨rfl, rfl⟩ : (if (c : Thread nD τ).2 = .tc ∧ 0 = 0 then Finset.univ.erase c else ∅) = _)
theorem payload_bar (d : Dev nD) : (Rd (F := F) m).payload (barCell c) r d = barPay (F := F) c d := rfl
theorem amount_bar (d : Dev nD) : (Rd (F := F) m).amount (barCell c) r d = 1 := rfl

theorem duties_used (hu : used j c x) (hr : r < rds j) : (Rd (F := F) m).duties (cell j c x) r = {0} := by
  rw [duties_cell, dutD, if_pos ⟨hu, hr⟩]
theorem expect_used (hu : used j c x) (hr : r < rds j) : (Rd (F := F) m).expect (cell j c x) r = N := by
  unfold Schedule.expect Schedule.amountOf; rw [duties_used m j c x r hu hr, Finset.sum_singleton, amount_cell]
theorem rest_used (hu : used j c x) (hr : r < rds j) :
    bigSep ((Rd (F := F) m).duties (cell j c x) r \ ∅) (fun d => (Rd (F := F) m).payload (cell j c x) r d) = payD m j c x r := by
  rw [Finset.sdiff_empty, duties_used m j c x r hu hr, bigSep_singleton, payload_cell]
theorem expect_bar : (Rd (F := F) m).expect (barCell c) 0 = 15 := by
  unfold Schedule.expect Schedule.amountOf
  rw [duties_bar, Finset.sum_congr rfl fun d _ => amount_bar m c 0 d, Finset.sum_const, Finset.card_erase_of_mem (Finset.mem_univ _), Finset.card_univ]
  rfl
theorem rest_bar :
    bigSep ((Rd (F := F) m).duties (barCell c) 0 \ ∅) (fun d => (Rd (F := F) m).payload (barCell c) 0 d)
      = bigSep (Finset.univ.erase c) (fun d => barPay (F := F) c d) := by
  rw [Finset.sdiff_empty, duties_bar]; rfl

/-- A copy cell has no duty from its last round on, and an unused one none at all; -/
theorem duties_over (h : ¬ (used j c x ∧ r < rds j)) : (Rd (F := F) m).duties (cell j c x) r = ∅ := by
  rw [duties_cell, dutD, if_neg h]
/-- nor has the barrier cell from round 1 on. -/
theorem duties_bar_over (h : 1 ≤ r) : (Rd (F := F) m).duties (barCell c) r = ∅ :=
  (if_neg (fun h' => by omega) : (if (c : Thread nD τ).2 = .tc ∧ r = 0 then Finset.univ.erase c else ∅) = _)

end Tables

/-! ## Dues -/

abbrev payBar (c : Dev nD) (k : ℕ) : Pay nD τ sig := (barCell (pr c k), 1, 1)
abbrev payAG (c : Dev nD) (l k : ℕ) : Pay nD τ sig := (cell 1 (pr c k) c, 2 + 2 * l, N)
abbrev payRS (c : Dev nD) (l k : ℕ) : Pay nD τ sig := (cell 3 (pr c k) c, 3 + 2 * l, N)

/-- The payments to the peers from the `k`-th on. -/
def seg (f : ℕ → Pay nD τ sig) (k : ℕ) : List (Pay nD τ sig) := (List.range' k (16 - k)).map f

theorem seg_cons (f : ℕ → Pay nD τ sig) {k : ℕ} (h : k < 16) : seg f k = f k :: seg f (k + 1) := by
  unfold seg
  rw [show 16 - k = (16 - (k + 1)) + 1 by omega, List.range'_succ, List.map_cons]

/-- What is still owed from the `k`-th scatter copy of layer `l` on, -/
def dRS (c : Dev nD) (l k : ℕ) : List (Pay nD τ sig) := seg (payRS c l) k ++ (seg (payAG c (l + 1)) 1
  ++ (List.range' (l + 1) (2 - l)).flatMap fun r => seg (payRS c r) 1 ++ seg (payAG c (r + 1)) 1)
/-- from the `k`-th gather copy of layer `l` on, -/
def dAG (c : Dev nD) (l k : ℕ) : List (Pay nD τ sig) := seg (payAG c l) k
  ++ (List.range' l (3 - l)).flatMap fun r => seg (payRS c r) 1 ++ seg (payAG c (r + 1)) 1
/-- and from the `k`-th barrier signal on. -/
def dBar (c : Dev nD) (k : ℕ) : List (Pay nD τ sig) := seg (payBar c) k ++ dAG c 0 1

theorem seg_end (f : ℕ → Pay nD τ sig) : seg f 16 = [] := rfl
theorem dAG_end (c : Dev nD) {l : ℕ} (h : l < 3) : dAG c l 16 = dRS c l 1 := by
  unfold dAG dRS
  rw [seg_end, List.nil_append, show 3 - l = (2 - l) + 1 by omega, List.range'_succ, List.flatMap_cons, List.append_assoc]
theorem dRS_end (c : Dev nD) {l : ℕ} (h : l < 3) : dRS c l 16 = dAG c (l + 1) 1 := by
  unfold dAG dRS
  rw [seg_end, List.nil_append, show 3 - (l + 1) = 2 - l by omega]
theorem dAG_last (c : Dev nD) : dAG c 3 16 = [] := rfl
theorem dBar_end (c : Dev nD) : dBar c 16 = dAG c 0 1 := by unfold dBar; rw [seg_end, List.nil_append]
theorem dAG_cons (c : Dev nD) (l : ℕ) {k : ℕ} (h : k < 16) : dAG c l k = payAG c l k :: dAG c l (k + 1) := by
  unfold dAG; rw [seg_cons _ h, List.cons_append]
theorem dRS_cons (c : Dev nD) (l : ℕ) {k : ℕ} (h : k < 16) : dRS c l k = payRS c l k :: dRS c l (k + 1) := by
  unfold dRS; rw [seg_cons _ h, List.cons_append]
theorem dBar_cons (c : Dev nD) {k : ℕ} (h : k < 16) : dBar c k = payBar c k :: dBar c (k + 1) := by
  unfold dBar; rw [seg_cons _ h, List.cons_append]

/-! ## Levels: an index is its own level -/

/-- Every payment of the list is to a TensorCore cell, at an index above `i`. -/
def Abv (i : ℕ) (l : List (Pay nD τ sig)) : Prop := ∀ x ∈ l, x.1.1.2 = .tc ∧ i < x.2.1 ∧ x.2.1 < 9

theorem Abv.append {i : ℕ} {l l' : List (Pay nD τ sig)} (h : Abv i l) (h' : Abv i l') : Abv i (l ++ l') := fun x hx =>
  (List.mem_append.mp hx).elim (h x) (h' x)
theorem Abv.seg {i : ℕ} {f : ℕ → Pay nD τ sig} (h : ∀ k, (f k).1.1.2 = .tc ∧ i < (f k).2.1 ∧ (f k).2.1 < 9) (k : ℕ) : Abv i (seg f k) :=
  fun x hx => by obtain ⟨n, -, rfl⟩ := List.mem_map.mp hx; exact h n
theorem Abv.mono {i i' : ℕ} {l : List (Pay nD τ sig)} (h : Abv i l) (hi : i' ≤ i) : Abv i' l :=
  fun x hx => ⟨(h x hx).1, by have := (h x hx).2.1; omega, (h x hx).2.2⟩

theorem abv_tail (c : Dev nD) {i l n : ℕ} (hi : i < 3 + 2 * l) (hn : l + n ≤ 3) :
    Abv i ((List.range' l n).flatMap fun r => MlpProof.seg (payRS c r) 1 ++ MlpProof.seg (payAG c (r + 1)) 1) := fun x hx => by
  obtain ⟨r, hr, hx⟩ := List.mem_flatMap.mp hx
  have hr' := List.mem_range'_1.mp hr
  refine Abv.append (Abv.seg (fun k => ⟨rfl, ?_, ?_⟩) 1) (Abv.seg (fun k => ⟨rfl, ?_, ?_⟩) 1) x hx
  all_goals (dsimp only; omega)
theorem abv_dAG (c : Dev nD) {i l : ℕ} (k : ℕ) (hl : l ≤ 3) (hi : i < 2 + 2 * l) : Abv i (dAG c l k) :=
  Abv.append (Abv.seg (fun k => ⟨rfl, hi, by dsimp only; omega⟩) k) (abv_tail c (by omega) (by omega))
theorem abv_dRS (c : Dev nD) {i l : ℕ} (k : ℕ) (hl : l < 3) (hi : i < 3 + 2 * l) : Abv i (dRS c l k) :=
  Abv.append (Abv.seg (fun k => ⟨rfl, hi, by dsimp only; omega⟩) k)
    (Abv.append (Abv.seg (fun k => ⟨rfl, by dsimp only; omega, by dsimp only; omega⟩) 1) (abv_tail c (by omega) (by omega)))
theorem abv_dBar (c : Dev nD) (k : ℕ) : Abv 0 (dBar c k) :=
  Abv.append (Abv.seg (fun k => ⟨rfl, by dsimp only; omega, by dsimp only; omega⟩) k) (abv_dAG c 1 (by omega) (by omega))

/-- A wait at index `i` while owing payments all above it. -/
theorem mayWait_abv (c : Dev nD) (s : SemLoc sig) {i : ℕ} (hi : i < 9) {l : List (Pay nD τ sig)} (h : Abv i l) :
    (levAts (L 9) lv : sProp 𝕄) ⊢ MayWait (c : Thread nD τ) s i (tallyL l) := by
  have := mayWait_addL (Val := Elt F) (U := UU) (N := 9) (e := 9) (i := i) (by omega) (le_refl _)
    (O := fun _ => 0) (SiteBlocks.above_zero 9 9) c s l (fun x hx => h x hx)
  rwa [addL_eq, zero_add] at this

end Cert.MlpProof

end
-- ==== Proof.State.lean ====
/-
# The states of a device between two operations

The resources a device holds about its peer `k` places on go through a fixed sequence of bundles in each layer
(`B0 … B4`, then `B0` of the next) and in the last gather (`C1 … C3`).  A state of the run is the device's own
part beside the bundles already moved on and those still to move (`It`).
-/
module

public import proofs.«01_k».proof.Proof.Proto

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F]

local notation "𝕄" => MT nD τ sig ℕ (Elt F) ℕ UU ℕ

variable (m : (ℓ : Loc nD τ sig) → Buf (Elt F) ℓ)

/-! ## Going through the peers -/

/-- The peers below `k` have `A`, the others `B`. -/
def It (A B : ℕ → sProp 𝕄) (k : ℕ) : sProp 𝕄 := iprop(bigSep (Finset.Ico 1 k) A ∗ bigSep (Finset.Ico k 16) B)

theorem It_start (A B : ℕ → sProp 𝕄) : bigSep (Finset.Ico 1 16) B ⊢ It A B 1 := by
  unfold It; rw [Finset.Ico_self, bigSep_empty]; exact (emp_sep (PROP := sProp 𝕄)).2
theorem It_end (A B : ℕ → sProp 𝕄) : It A B 16 ⊢ bigSep (Finset.Ico 1 16) A := by
  unfold It; rw [Finset.Ico_self, bigSep_empty]; exact (sep_emp (PROP := sProp 𝕄)).1
/-- The next peer's bundle, to be handed back moved on. -/
theorem It_next (A B : ℕ → sProp 𝕄) {k : ℕ} (h1 : 1 ≤ k) (h2 : k < 16) :
    It A B k ⊢ iprop(B k ∗ (A k -∗ It A B (k + 1))) := by
  unfold It
  rw [bigSep_Ico_succ_bot h2, bigSep_Ico_succ_top h1]
  iintro ⟨Ha, Hb, Hr⟩
  isplitl [Hb]; · iexact Hb
  iintro Hk
  isplitl [Ha Hk]
  · isplitl [Hk] <;> iassumption
  · iexact Hr

/-! ## What every device shares -/

/-- The cells of a device: the barrier, and the four families. -/
abbrev CI : Type := Option (Fin 4 × Dev nD)
def csm : CI → SemLoc sig
  | none => .reg barS
  | some (j, x) => .dma (smN j x)
abbrev kc (p : Dev nD × CI) : GSem nD τ sig := ((p.1 : Thread nD τ), csm p.2)

/-- Every cell's invariant, and that every cell is open. -/
def records (K : Dev nD × CI → ℕ) : sProp 𝕄 :=
  bigSep Finset.univ fun p => iprop(cellInv ER (Rd (F := F) m) (K p) (kc p) ∗ reached ER (kc p) 0)

instance records_persistent (K : Dev nD × CI → ℕ) : BI.Persistent (records (F := F) m K) := by unfold records; infer_instance

theorem records_inv (K : Dev nD × CI → ℕ) (p : Dev nD × CI) : records (F := F) m K ⊢ cellInv ER (Rd (F := F) m) (K p) (kc p) := by
  have h : iprop(cellInv ER (Rd (F := F) m) (K p) (kc p) ∗ reached ER (kc p) 0) ⊢ cellInv ER (Rd (F := F) m) (K p) (kc p) := by
    iintro ⟨H, -⟩; iexact H
  exact (bigSep_elim (Finset.mem_univ p)).trans h
theorem records_reached (K : Dev nD × CI → ℕ) (p : Dev nD × CI) : records (F := F) m K ⊢ reached ER (kc p) 0 := by
  have h : iprop(cellInv ER (Rd (F := F) m) (K p) (kc p) ∗ reached ER (kc p) 0) ⊢ (reached ER (kc p) 0 : sProp 𝕄) := by
    iintro ⟨-, H⟩; iexact H
  exact (bigSep_elim (Finset.mem_univ p)).trans h

/-- What the device owes, whatever waits it has recorded. -/
def OW (c : Dev nD) (O : List (Pay nD τ sig)) : sProp 𝕄 := iprop(∃ W, owes (c : Thread nD τ) (tallyL O) W)

/-- The staged weights. -/
def wts (c : Dev nD) : sProp 𝕄 :=
  iprop(own c wi0M (Wi m 0 c) ∗ own c wo0M (Wo m 0 c) ∗ own c wi1M (Wi m 1 c) ∗ own c wo1M (Wo m 1 c)
    ∗ own c wi2M (Wi m 2 c) ∗ own c wo2M (Wo m 2 c))

/-- What no operation after the entry touches: the staged input, the scatter slot of one's own, the closed barrier cell's position
    and those of the unused copy cells. -/
def inert (c : Dev nD) : sProp 𝕄 :=
  iprop(own c xM (x0 m c) ∗ anyO (F := F) c (slot c) ∗ atPos ER (barCell c) 1 ∅ 0
    ∗ atPos ER (cell 0 c 0) 0 ∅ 0 ∗ atPos ER (cell 1 c c) 0 ∅ 0 ∗ atPos ER (cell 2 c 0) 0 ∅ 0 ∗ atPos ER (cell 3 c c) 0 ∅ 0)

def base (K : Dev nD × CI → ℕ) (c : Dev nD) (O : List (Pay nD τ sig)) : sProp 𝕄 :=
  iprop(records m K ∗ levAts (L 9) lv ∗ OW (F := F) c O ∗ wts m c ∗ inert m c)

/-! ## The bundle of one peer -/

abbrev pos (j : Fin 4) (c x : Dev nD) (r : ℕ) : sProp 𝕄 := atPos ER (cell j c x) r ∅ 0
/-- The duty tokens of a cell from round `l` to round `n`. -/
def fut (g : GSem nD τ sig) (n l : ℕ) : sProp 𝕄 := bigSep (Finset.Ico l n) fun r => dutyTok ER g r (0 : Dev nD)
/-- The credit of an arrival cell from round `l` to round `n`. -/
def fcr (g : GSem nD τ sig) (i n l : ℕ) : sProp 𝕄 := bigSep (Finset.Ico l n) fun r => cred (tallyAt g (i + 2 * r) N)

theorem fut_next (g : GSem nD τ sig) {n l : ℕ} (h : l < n) :
    (fut (F := F) g n l) = iprop(dutyTok ER g l (0 : Dev nD) ∗ fut (F := F) g n (l + 1)) := bigSep_Ico_succ_bot h _
theorem fcr_next (g : GSem nD τ sig) (i : ℕ) {n l : ℕ} (h : l < n) :
    (fcr (F := F) g i n l) = iprop(cred (tallyAt g (i + 2 * l) N) ∗ fcr (F := F) g i n (l + 1)) := bigSep_Ico_succ_bot h _

/-- The peer's row block to copy one's rows into; after the last layer, one's own for the peer's. -/
def xfT (c : Dev nD) (l k : ℕ) : sProp 𝕄 :=
  if l < 3 then anyO (F := F) (pr c k) (row xfM c) else anyO (F := F) c (row xfM (pr c k))

/-- Before the gather copy of layer `l`, but for the share of one's slice. -/
def B0r (c : Dev nD) (l k : ℕ) : sProp 𝕄 :=
  iprop((fut (F := F) (cell 1 (pr c k) c) 4 l ∗ fut (F := F) (cell 0 c (kd k)) 4 l ∗ fut (F := F) (cell 3 (pr c k) c) 3 l ∗ fut (F := F) (cell 2 c (kd k)) 3 l)
    ∗ (fcr (F := F) (cell 1 c (pr c k)) 2 4 l ∗ fcr (F := F) (cell 3 c (pr c k)) 3 3 l)
    ∗ (pos (F := F) 0 c (kd k) l ∗ pos (F := F) 1 c (pr c k) l ∗ pos (F := F) 2 c (kd k) l ∗ pos (F := F) 3 c (pr c k) l)
    ∗ (reached ER (cell 0 c (kd k)) l ∗ reached ER (cell 1 (pr c k) c) l ∗ reached ER (cell 2 c (kd k)) l ∗ reached ER (cell 3 c (pr c k)) l)
    ∗ anyO (F := F) c (row ptM (pr c k)) ∗ anyO (F := F) c (slot (pr c k)) ∗ anyO (F := F) (pr c k) (row outM c) ∗ xfT (F := F) c l k)
def B0 (c : Dev nD) (l k : ℕ) : sProp 𝕄 := iprop(B0r (F := F) c l k ∗ ms c k (Xv m l c))

/-- After the gather copy. -/
def B1 (c : Dev nD) (l k : ℕ) : sProp 𝕄 :=
  iprop((fut (F := F) (cell 1 (pr c k) c) 4 (l + 1) ∗ fut (F := F) (cell 0 c (kd k)) 4 (l + 1) ∗ fut (F := F) (cell 3 (pr c k) c) 3 l ∗ fut (F := F) (cell 2 c (kd k)) 3 l)
    ∗ (fcr (F := F) (cell 1 c (pr c k)) 2 4 l ∗ fcr (F := F) (cell 3 c (pr c k)) 3 3 l ∗ cred (tallyAt (cell 0 c (kd k)) 0 N))
    ∗ (pos (F := F) 0 c (kd k) l ∗ pos (F := F) 1 c (pr c k) l ∗ pos (F := F) 2 c (kd k) l ∗ pos (F := F) 3 c (pr c k) l)
    ∗ reached ER (cell 2 c (kd k)) l
    ∗ anyO (F := F) c (row ptM (pr c k)) ∗ anyO (F := F) (pr c k) (row outM c))

/-- After the peer's rows have arrived; `P` is the row block of parts for the peer. -/
def B1w (c : Dev nD) (l k : ℕ) (P : sProp 𝕄) : sProp 𝕄 :=
  iprop((fut (F := F) (cell 1 (pr c k) c) 4 (l + 1) ∗ fut (F := F) (cell 0 c (kd k)) 4 (l + 1) ∗ fut (F := F) (cell 3 (pr c k) c) 3 l ∗ fut (F := F) (cell 2 c (kd k)) 3 l)
    ∗ (fcr (F := F) (cell 1 c (pr c k)) 2 4 (l + 1) ∗ fcr (F := F) (cell 3 c (pr c k)) 3 3 l ∗ cred (tallyAt (cell 0 c (kd k)) 0 N))
    ∗ (pos (F := F) 0 c (kd k) l ∗ pos (F := F) 1 c (pr c k) (l + 1) ∗ pos (F := F) 2 c (kd k) l ∗ pos (F := F) 3 c (pr c k) l)
    ∗ (reached ER (cell 2 c (kd k)) l ∗ reached ER (cell 1 c (pr c k)) (l + 1) ∗ reached ER (cell 3 (pr c k) c) l)
    ∗ P ∗ anyO (F := F) (pr c k) (row outM c)
    ∗ own c (row xfM (pr c k)) (Xv m l (pr c k)) ∗ anyO (F := F) (pr c k) (slot c) ∗ ms (pr c k) (gap (pr c k) c) (Xv m l (pr c k)))

/-- After the scatter copy. -/
def B2 (c : Dev nD) (l k : ℕ) : sProp 𝕄 :=
  iprop((fut (F := F) (cell 1 (pr c k) c) 4 (l + 1) ∗ fut (F := F) (cell 0 c (kd k)) 4 (l + 1) ∗ fut (F := F) (cell 3 (pr c k) c) 3 (l + 1) ∗ fut (F := F) (cell 2 c (kd k)) 3 (l + 1))
    ∗ (fcr (F := F) (cell 1 c (pr c k)) 2 4 (l + 1) ∗ fcr (F := F) (cell 3 c (pr c k)) 3 3 l ∗ cred (tallyAt (cell 0 c (kd k)) 0 N) ∗ cred (tallyAt (cell 2 c (kd k)) 0 N))
    ∗ (pos (F := F) 0 c (kd k) l ∗ pos (F := F) 1 c (pr c k) (l + 1) ∗ pos (F := F) 2 c (kd k) l ∗ pos (F := F) 3 c (pr c k) l)
    ∗ anyO (F := F) (pr c k) (row outM c)
    ∗ (if l < 2 then iprop(emp) else anyO (F := F) c (row xfM (pr c k))))

/-- After the peer's part has arrived; but for the share of one's slice. -/
def B3r (c : Dev nD) (l k : ℕ) : sProp 𝕄 :=
  iprop((fut (F := F) (cell 1 (pr c k) c) 4 (l + 1) ∗ fut (F := F) (cell 0 c (kd k)) 4 (l + 1) ∗ fut (F := F) (cell 3 (pr c k) c) 3 (l + 1) ∗ fut (F := F) (cell 2 c (kd k)) 3 (l + 1))
    ∗ (fcr (F := F) (cell 1 c (pr c k)) 2 4 (l + 1) ∗ fcr (F := F) (cell 3 c (pr c k)) 3 3 (l + 1) ∗ cred (tallyAt (cell 0 c (kd k)) 0 N) ∗ cred (tallyAt (cell 2 c (kd k)) 0 N))
    ∗ (pos (F := F) 0 c (kd k) l ∗ pos (F := F) 1 c (pr c k) (l + 1) ∗ pos (F := F) 2 c (kd k) l ∗ pos (F := F) 3 c (pr c k) (l + 1))
    ∗ (reached ER (cell 1 (pr c k) c) (l + 1) ∗ reached ER (cell 3 c (pr c k)) (l + 1))
    ∗ anyO (F := F) (pr c k) (row outM c) ∗ xfT (F := F) c (l + 1) k ∗ own c (slot (pr c k)) (Pv m l (pr c k) c))
/-- … with the share, the slice holding `X`. -/
def B3 (c : Dev nD) (l : ℕ) (X : Blk F) (k : ℕ) : sProp 𝕄 := iprop(B3r m c l k ∗ ms c k X)

/-- After the gather copy's departure has been waited for. -/
def B4 (c : Dev nD) (l k : ℕ) : sProp 𝕄 :=
  iprop((fut (F := F) (cell 1 (pr c k) c) 4 (l + 1) ∗ fut (F := F) (cell 0 c (kd k)) 4 (l + 1) ∗ fut (F := F) (cell 3 (pr c k) c) 3 (l + 1) ∗ fut (F := F) (cell 2 c (kd k)) 3 (l + 1))
    ∗ (fcr (F := F) (cell 1 c (pr c k)) 2 4 (l + 1) ∗ fcr (F := F) (cell 3 c (pr c k)) 3 3 (l + 1) ∗ cred (tallyAt (cell 2 c (kd k)) 0 N))
    ∗ (pos (F := F) 0 c (kd k) (l + 1) ∗ pos (F := F) 1 c (pr c k) (l + 1) ∗ pos (F := F) 2 c (kd k) l ∗ pos (F := F) 3 c (pr c k) (l + 1))
    ∗ (reached ER (cell 0 c (kd k)) (l + 1) ∗ reached ER (cell 1 (pr c k) c) (l + 1) ∗ reached ER (cell 3 c (pr c k)) (l + 1))
    ∗ anyO (F := F) (pr c k) (row outM c) ∗ xfT (F := F) c (l + 1) k ∗ anyO (F := F) c (slot (pr c k)) ∗ ms c k (Xv m (l + 1) c))

/-- After the last gather's copy. -/
def C1 (c : Dev nD) (k : ℕ) : sProp 𝕄 :=
  iprop((cred (tallyAt (cell 1 c (pr c k)) 8 N) ∗ cred (tallyAt (cell 0 c (kd k)) 0 N))
    ∗ (pos (F := F) 0 c (kd k) 3 ∗ pos (F := F) 1 c (pr c k) 3 ∗ pos (F := F) 2 c (kd k) 3 ∗ pos (F := F) 3 c (pr c k) 3)
    ∗ anyO (F := F) c (row ptM (pr c k)) ∗ anyO (F := F) c (slot (pr c k)) ∗ anyO (F := F) c (row xfM (pr c k)))
/-- After the peer's rows of the result have arrived. -/
def C2 (c : Dev nD) (k : ℕ) : sProp 𝕄 :=
  iprop(cred (tallyAt (cell 0 c (kd k)) 0 N)
    ∗ (pos (F := F) 0 c (kd k) 3 ∗ pos (F := F) 1 c (pr c k) 4 ∗ pos (F := F) 2 c (kd k) 3 ∗ pos (F := F) 3 c (pr c k) 3)
    ∗ anyO (F := F) c (row ptM (pr c k)) ∗ anyO (F := F) c (slot (pr c k)) ∗ anyO (F := F) c (row xfM (pr c k))
    ∗ own c (row outM (pr c k)) (Xv m 3 (pr c k)))
/-- After the departure has been waited for. -/
def C3 (c : Dev nD) (k : ℕ) : sProp 𝕄 :=
  iprop((pos (F := F) 0 c (kd k) 4 ∗ pos (F := F) 1 c (pr c k) 4 ∗ pos (F := F) 2 c (kd k) 3 ∗ pos (F := F) 3 c (pr c k) 3)
    ∗ anyO (F := F) c (row ptM (pr c k)) ∗ anyO (F := F) c (slot (pr c k)) ∗ anyO (F := F) c (row xfM (pr c k))
    ∗ own c (row outM (pr c k)) (Xv m 3 (pr c k)) ∗ ms c k (Xv m 3 c))

/-- Before the barrier signal to the peer: what the signal hands over. -/
def Dg (c : Dev nD) (k : ℕ) : sProp 𝕄 :=
  iprop(dutyTok ER (barCell (pr c k)) 0 c ∗ anyO (F := F) c (row xfM (pr c k)) ∗ anyO (F := F) c (row outM (pr c k)))
/-- What the peer's signal will complete to a bundle before the first gather copy. -/
def D1 (c : Dev nD) (k : ℕ) : sProp 𝕄 :=
  iprop((fut (F := F) (cell 1 (pr c k) c) 4 0 ∗ fut (F := F) (cell 0 c (kd k)) 4 0 ∗ fut (F := F) (cell 3 (pr c k) c) 3 0 ∗ fut (F := F) (cell 2 c (kd k)) 3 0)
    ∗ (fcr (F := F) (cell 1 c (pr c k)) 2 4 0 ∗ fcr (F := F) (cell 3 c (pr c k)) 3 3 0)
    ∗ (pos (F := F) 0 c (kd k) 0 ∗ pos (F := F) 1 c (pr c k) 0 ∗ pos (F := F) 2 c (kd k) 0 ∗ pos (F := F) 3 c (pr c k) 0)
    ∗ anyO (F := F) c (row ptM (pr c k)) ∗ anyO (F := F) c (slot (pr c k)))

/-! ## The states -/

/-- One's own row blocks and share 0 of one's slice. -/
def loc (x p o s : sProp 𝕄) : sProp 𝕄 := iprop(x ∗ p ∗ o ∗ s)

abbrev anyX (c : Dev nD) : sProp 𝕄 := anyO (F := F) c (row xfM c)
abbrev anyP (c : Dev nD) : sProp 𝕄 := anyO (F := F) c (row ptM c)
abbrev anyR (c : Dev nD) : sProp 𝕄 := anyO (F := F) c (row outM c)

variable (K : Dev nD × CI → ℕ) (c : Dev nD)

/-- What the entry leaves alone, the barrier cell not yet waited for. -/
def inert0 : sProp 𝕄 :=
  iprop(own c xM (x0 m c) ∗ anyO (F := F) c (slot c) ∗ atPos ER (barCell c) 0 ∅ 0
    ∗ atPos ER (cell 0 c 0) 0 ∅ 0 ∗ atPos ER (cell 1 c c) 0 ∅ 0 ∗ atPos ER (cell 2 c 0) 0 ∅ 0 ∗ atPos ER (cell 3 c c) 0 ∅ 0)

/-- Before the barrier signal to the peer `k` places on. -/
def TD (k : ℕ) : sProp 𝕄 :=
  iprop((records m K ∗ levAts (L 9) lv ∗ OW (F := F) c (dBar c k) ∗ wts m c ∗ inert0 m c)
    ∗ (cred (tallyAt (barCell c) 1 15) ∗ loc (anyX (F := F) c) (anyP (F := F) c) (anyR (F := F) c) (anyO (F := F) c msM))
    ∗ bigSep (Finset.Ico k 16) (Dg (F := F) c) ∗ bigSep (Finset.Ico 1 16) (D1 (F := F) c))
/-- After the barrier. -/
def TE : sProp 𝕄 :=
  iprop(base m K c (dAG c 0 1) ∗ loc (anyX (F := F) c) (anyP (F := F) c) (anyR (F := F) c) (anyO (F := F) c msM)
    ∗ bigSep (Finset.Ico 1 16) (B0r (F := F) c 0))
/-- Before gather copy `k` of layer `l`. -/
def T1 (l k : ℕ) : sProp 𝕄 :=
  iprop(base m K c (dAG c l k) ∗ loc (anyX (F := F) c) (anyP (F := F) c) (anyR (F := F) c) (ms c 0 (Xv m l c)) ∗ It (B1 (F := F) c l) (B0 m c l) k)
/-- The gather copies gone, one's own rows stored. -/
def T1x (l : ℕ) (p : sProp 𝕄) : sProp 𝕄 :=
  iprop(base m K c (dRS c l 1) ∗ loc (own c (row xfM c) (Xv m l c)) p (anyR (F := F) c) (ms c 0 (Xv m l c)) ∗ bigSep (Finset.Ico 1 16) (B1 (F := F) c l))
abbrev ownP (l : ℕ) : sProp 𝕄 := own c (row ptM c) (Pv m l c c)
abbrev loc2 (l : ℕ) : sProp 𝕄 := loc (own c (row xfM c) (Xv m l c)) (ownP m c l) (anyR (F := F) c) (ms c 0 (Xv m l c))
/-- Before gather arrival `k` of layer `l`. -/
def T2 (l k : ℕ) : sProp 𝕄 := iprop(base m K c (dRS c l k) ∗ loc2 m c l ∗ It (B2 (F := F) c l) (B1 (F := F) c l) k)
/-- After it; `P` is the row block of parts. -/
def T2w (l k : ℕ) (P : sProp 𝕄) : sProp 𝕄 :=
  iprop(base m K c (dRS c l k) ∗ loc2 m c l ∗ B1w m c l k P ∗ (B2 (F := F) c l k -∗ It (B2 (F := F) c l) (B1 (F := F) c l) (k + 1)))
/-- Before scatter arrival `k` of layer `l`. -/
def T3 (l k : ℕ) : sProp 𝕄 := iprop(base m K c (dAG c (l + 1) 1) ∗ loc2 m c l ∗ It (B3 m c l (Xv m l c)) (B2 (F := F) c l) k)
/-- One's slice stored; before the wait for gather departure `k`. -/
def T4 (l k : ℕ) : sProp 𝕄 :=
  iprop(base m K c (dAG c (l + 1) 1) ∗ loc (anyX (F := F) c) (anyP (F := F) c) (anyR (F := F) c) (ms c 0 (Xv m (l + 1) c))
    ∗ It (B4 m c l) (B3 m c l (Xv m (l + 1) c)) k)
/-- Before the wait for scatter departure `k`. -/
def T5 (l k : ℕ) : sProp 𝕄 :=
  iprop(base m K c (dAG c (l + 1) 1) ∗ loc (anyX (F := F) c) (anyP (F := F) c) (anyR (F := F) c) (ms c 0 (Xv m (l + 1) c))
    ∗ It (B0 m c (l + 1)) (B4 m c l) k)
/-- Before copy `k` of the last gather. -/
def T6 (k : ℕ) : sProp 𝕄 :=
  iprop(base m K c (dAG c 3 k) ∗ loc (anyX (F := F) c) (anyP (F := F) c) (anyR (F := F) c) (ms c 0 (Xv m 3 c)) ∗ It (C1 (F := F) c) (B0 m c 3) k)
abbrev loc7 : sProp 𝕄 := loc (anyX (F := F) c) (anyP (F := F) c) (own c (row outM c) (Xv m 3 c)) (ms c 0 (Xv m 3 c))
/-- Before its arrival `k`. -/
def T7 (k : ℕ) : sProp 𝕄 := iprop(base m K c [] ∗ loc7 m c ∗ It (C2 m c) (C1 (F := F) c) k)
/-- Before its departure `k`. -/
def T8 (k : ℕ) : sProp 𝕄 := iprop(base m K c [] ∗ loc7 m c ∗ It (C3 m c) (C2 m c) k)

end Cert.MlpProof

end
-- ==== Proof.Access.lean ====
/-
# One operation at a time: accesses

A load or store at the head of a program, as a step from one assertion to another.
-/
module

public import proofs.«01_k».proof.Proof.State

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F]

local notation "𝕄" => MT nD τ sig ℕ (Elt F) ℕ UU ℕ

variable (m : (ℓ : Loc nD τ sig) → Buf (Elt F) ℓ)

/-! ## Programs -/

abbrev 𝒱₀ : Variants := Variants.none

/-- The program runs on device `c` to the end, where `Q` holds. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program continued. -/
theorem wp_seq {c : Dev nD} {α β : Type} {p : Prog (TpuEff nD τ sig (Elt F) Λ₀ .tc) α} {k : α → Prog (TpuEff nD τ sig (Elt F) Λ₀ .tc) β}
    {P : sProp 𝕄} {Q : β → sProp 𝕄} (h : P ⊢ WP c p (fun a => WP c (k a) Q)) : P ⊢ WP c (p >>= k) Q := by
  rw [WP, wp_bind]; exact h

/-- A program come to its end. -/
theorem wp_done {c : Dev nD} {α : Type} {a : α} {P : sProp 𝕄} {Q : α → sProp 𝕄} (h : P ⊢ Q a) :
    P ⊢ WP c (Prog.ret a : Prog (TpuEff nD τ sig (Elt F) Λ₀ .tc) α) Q := by
  rw [WP, wp_ret]; exact h.trans fupd_intro

/-! ## Loads and stores -/

section Access

variable {c : Dev nD} {sh : Shape} {α : Type}

/-- A load through a slice the device owns. -/
theorem load_slice {Q : α → sProp 𝕄} {P : sProp 𝕄} {M : Memref sig .tc .vmem sh .f32} {r : Rect sh} (hr : ∀ a, r.stride a = 1) {hl : M.view.LoadsAt r.toLoadRect}
    {k : (r.toLoadRect.shape.Idx → Elt F .f32) → Prog (TpuEff nD τ sig (Elt F) Λ₀ .tc) α} {q : PosShare TreeShare} {X : r.shape.Idx → Elt F .f32}
    (acc : P ⊢ iprop(owns (c : Thread nD τ) (M.slice r hr) q X ∗ (owns (c : Thread nD τ) (M.slice r hr) q X -∗ P)))
    (h : P ⊢ WP c (k X) Q) : P ⊢ WP c (.op (.load M r.toLoadRect hl) k) Q := by
  refine acc.trans ?_
  unfold owns
  iintro ⟨⟨%f, %hf, H⟩, Hb⟩
  iapply (wp_load 𝒱₀ (c : Thread nD τ) none Set.univ (m := M) (r := r.toLoadRect) (hl := hl) (k := k)
    (S := (M.slice r hr).view.set) (q := q) (f := f) (by rw [show (M.slice r hr).view.set = _ from View.set_slice M.view r]; exact Finset.Subset.refl _)) $$ H
  iintro H
  have hX : M.view.readAt (Elt F) r.toLoadRect f = X := hf
  rw [hX]
  iapply h
  iapply Hb
  iexists f
  isplitr
  · ipureintro; exact hf
  · iexact H

/-- A store through a slice the device owns. -/
theorem store_slice {Q : α → sProp 𝕄} {P P' : sProp 𝕄} {M : Memref sig .tc .vmem sh .f32} {r : Rect sh} (hr : ∀ a, r.stride a = 1) {w : r.shape.Idx → Elt F .f32}
    {hx : (M.access r).Stores Finset.univ} {hm : Finset.univ = Finset.univ ∨ ∀ a, r.stride a = 1}
    {k : PUnit → Prog (TpuEff nD τ sig (Elt F) Λ₀ .tc) α}
    (acc : P ⊢ iprop(anyO (F := F) c (M.slice r hr) ∗ (own c (M.slice r hr) w -∗ P')))
    (h : P' ⊢ WP c (k ⟨⟩) Q) : P ⊢ WP c (.op (.store M r w Finset.univ hx hm) k) Q := by
  refine acc.trans ?_
  unfold anyO own owns
  iintro ⟨⟨%X, %f, -, H⟩, Hb⟩
  iapply (wp_store 𝒱₀ (c : Thread nD τ) none Set.univ (m := M) (r := r) (w := w) (Mk := Finset.univ) (hx := hx) (hm := hm) (k := k)
    (S := (M.slice r hr).view.set) (f := f) (Finset.Subset.refl _)) $$ H
  iintro H
  iapply h
  iapply Hb
  iexists (M.access r).write (Elt F) f w Finset.univ
  isplitr
  · ipureintro; exact View.read_write_univ (v := M.access r) f w
  · iexact H

end Access

/-- A slice at the offset zero of the buffer's own sizes is the buffer. -/
theorem owns_unit_zero (c : Dev nD) {b : Ref sig .tc} {off : Fin b.ty.shape.rank → ℕ} (h0 : off = fun _ => 0)
    (inb : ∀ a, off a + b.ty.shape.size a ≤ b.ty.shape.size a) (hs) (q : PosShare TreeShare) (X : b.ty.shape.Idx → Elt F b.ty.elt) :
    (owns (c : Thread nD τ) ((Memref.whole b).slice (Rect.unit off b.ty.shape.size inb) hs) q X : sProp 𝕄)
      = owns (c : Thread nD τ) (Memref.whole b) q X := by
  have hset : ((Memref.whole b).slice (Rect.unit off b.ty.shape.size inb) hs).view.set = Finset.univ := by
    rw [show ((Memref.whole b).slice (Rect.unit off b.ty.shape.size inb) hs).view.set = _ from View.set_slice _ _]
    refine Finset.eq_univ_iff_forall.mpr fun i => Finset.mem_map.mpr ⟨i, (by subst h0; show i ∈ (Rect.whole b.ty.shape).set; rw [Rect.set_whole]; exact Finset.mem_univ i), rfl⟩
  have hread (f : b.ty.Contents (Elt F)) : ((Memref.whole b).slice (Rect.unit off b.ty.shape.size inb) hs).view.read (Elt F) f = f :=
    Memref.read_access_unit_zero (Elt F) b h0 inb f
  rw [owns_whole_eq]
  unfold owns
  simp only [hset, hread]

/-! ## Semaphores and credits -/

theorem sem_slice (base : ℕ) (h : base + S16.numel ≤ 72) {n : ℕ} (hn : n < 16) {off : Fin S16.rank → ℕ} (ho : off = ![n]) (inb hs) :
    (((SemArray.consecutive base S16 h : SemArray (Fin 72) S16).slice (Rect.unit (s := S16) off S1.size inb)).squeeze S_ squeezes_S1_S_).sem
      = ⟨base + n, by have : S16.numel = 16 := rfl; omega⟩ := by
  subst ho
  refine Fin.ext ?_
  show base + (S16.rowMajor _).val = base + n
  rw [Shape.rowMajor_val_one]
  show base + ((Rect.unit (s := S16) ![n] S1.size inb).emb (Shape.reshapeEquiv squeezes_S1_S_.numel_eq fun i => i.elim0) 0).val = base + n
  generalize (Shape.reshapeEquiv squeezes_S1_S_.numel_eq fun i => i.elim0) = j
  have hj : (j 0).val < 1 := (j 0).isLt
  have : ((Rect.unit (s := S16) ![n] S1.size inb).emb j 0).val = n + 1 * (j 0).val := rfl
  omega

/-! ## Slots of the scatter buffer -/

/-- A block of 64 rows as a 1×64×512 array. -/
def unsq (X : Blk F) : S1x64x512.Idx → Elt F .f32 := fun i => X ((Shape.reshapeEquiv squeezes_S1x64x512_S64x512.numel_eq).symm i)

theorem shapeCast_unsq (X : Blk F) (h) : shapeCast S64x512 (unsq X) h = X := by
  funext j
  show X ((Shape.reshapeEquiv squeezes_S1x64x512_S64x512.numel_eq).symm (Shape.reshapeEquiv h j)) = X j
  rw [Equiv.symm_apply_apply]

theorem own_slot (c s : Dev nD) (q : PosShare TreeShare) (X : Blk F) :
    (owns (c : Thread nD τ) (slot s) q X : sProp 𝕄) = owns (c : Thread nD τ) (slot3 s) q (unsq X) := by
  have hset : (slot s).view.set = (slot3 s).view.set := View.set_reshape _ _
  have hread (f : (slot3 s).view.ty.Contents (Elt F)) : ((slot s).view.read (Elt F) f = X) ↔ ((slot3 s).view.read (Elt F) f = unsq X) := by
    constructor
    · intro h; subst h; funext i
      show (slot3 s).view.read (Elt F) f i = (slot3 s).view.read (Elt F) f (Shape.reshapeEquiv _ ((Shape.reshapeEquiv _).symm i))
      rw [Equiv.apply_symm_apply]
    · intro h
      have : (slot s).view.read (Elt F) f = shapeCast S64x512 ((slot3 s).view.read (Elt F) f) squeezes_S1x64x512_S64x512.numel_eq := rfl
      rw [this, h, shapeCast_unsq]
  have e₁ : (owns (c : Thread nD τ) (slot s) q X : sProp 𝕄) ⊢ owns (c : Thread nD τ) (slot3 s) q (unsq X) := by
    unfold owns
    iintro ⟨%f, %hf, H⟩
    iexists f
    rw [← hset]
    isplitr
    · ipureintro; exact (hread f).mp hf
    · iexact H
  have e₂ : (owns (c : Thread nD τ) (slot3 s) q (unsq X) : sProp 𝕄) ⊢ owns (c : Thread nD τ) (slot s) q X := by
    unfold owns
    iintro ⟨%f, %hf, H⟩
    iexists f
    rw [hset]
    isplitr
    · ipureintro; exact (hread f).mpr hf
    · iexact H
  exact BI.equiv_iff.mp ⟨e₁, e₂⟩

end Cert.MlpProof

end
-- ==== Proof.Steps.lean ====
/-
# One operation at a time: accesses

A load or store at the head of a program, as a step from one assertion to another.
-/
module

public import proofs.«01_k».proof.Proof.Access

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F]

local notation "𝕄" => MT nD τ sig ℕ (Elt F) ℕ UU ℕ

variable (m : (ℓ : Loc nD τ sig) → Buf (Elt F) ℓ)

variable (K : Dev nD × CI → ℕ) (c : Dev nD) {α : Type}

theorem owe_cons (x : Pay nD τ sig) (l : List (Pay nD τ sig)) : tallyL (x :: l) = tallyL l + tallyAt x.1 x.2.1 x.2.2 :=
  (add_comm _ _ : x.tally + tallyL l = tallyL l + x.tally)

theorem inv_bar (d : Dev nD) : records (F := F) m K ⊢ cellInv ER (Rd (F := F) m) (K (d, none)) (barCell d) := records_inv m K (d, none)
theorem inv_cell (j : Fin 4) (d x : Dev nD) : records (F := F) m K ⊢ cellInv ER (Rd (F := F) m) (K (d, some (j, x))) (cell j d x) :=
  records_inv m K (d, some (j, x))
theorem open_bar (d : Dev nD) : records (F := F) m K ⊢ reached ER (barCell d) 0 := records_reached m K (d, none)
theorem open_cell (j : Fin 4) (d x : Dev nD) : records (F := F) m K ⊢ reached ER (cell j d x) 0 := records_reached m K (d, some (j, x))

/-! ## A wait and a copy in general -/

/-- A wait for the open round of a copy cell of one's own. -/
theorem wait_cell {j : Fin 4} {x : Dev nD} {r i : ℕ} {O : List (Pay nD τ sig)} (hu : used j c x) (hr : r < rds j) (hi : i < 9) (hO : Abv i O)
    {sp sp' : Space} {s s' : Shape} {e e' : EltTy} {sm : DmaSem sig} (hsm : sm = smN j x) {src : Memref sig .tc sp' s' e'} {dst : Memref sig .tc sp s e}
    (hN : dst.view.dmaCredit = N) {hsrc : src.view.WordExact} {hdst : dst.view.WordExact} {f} {P P' : sProp 𝕄} {Q : α → sProp 𝕄}
    (acc : P ⊢ iprop((records m K ∗ levAts (L 9) lv ∗ OW (F := F) c O ∗ cred (tallyAt (cell j c x) i N) ∗ pos (F := F) j c x r)
      ∗ ((OW (F := F) c O ∗ pos (F := F) j c x (r + 1) ∗ reached ER (cell j c x) (r + 1) ∗ payD m j c x r) -∗ P')))
    (h : P' ⊢ WP c (f ⟨⟩) Q) : P ⊢ WP c (.op (.waitDma2 sm src dst hsrc hdst) f) Q := by
  subst hsm
  refine acc.trans ?_
  unfold OW
  iintro ⟨⟨#Hr, #Hl, ⟨%W, Ho⟩, Hc, Hp⟩, Hb⟩
  iapply (wp_wait_rest_token 𝒱₀ ER (Rd (F := F) m) (c : Thread nD τ) none (sm := .dma (smN j x)) (k' := dst.view.dmaCredit)
      (κ := K (c, some (j, x))) (wpE_waitDma2_eq 𝒱₀ (c : Thread nD τ) none Set.univ) (Set.mem_univ _) i (O := tallyL O) (W := W) (R := r) (m := 0) (T := ∅)
      (by rw [hN, Nat.zero_add]; exact (expect_used m j c x r hu hr).symm)) $$ [Ho Hc Hp]
  · isplitr; · iapply (inv_cell m K j c x) $$ Hr
    isplitl [Hc]; · rw [hN]; iexact Hc
    isplitl [Ho]; · iexact Ho
    isplitr; · iapply (mayWait_abv c (.dma (smN j x)) hi hO) $$ Hl
    iexact Hp
  iintro ⟨Ho, Hp, Hre, Hpay⟩
  iapply h
  iapply Hb
  isplitl [Ho]
  · iexists _; iexact Ho
  isplitl [Hp]; · iexact Hp
  isplitl [Hre]; · iexact Hre
  rw [← rest_used m j c x r hu hr]
  iexact Hpay

section Send

variable {p : Dev nD} {jS jR : Fin 4} {x : Dev nD} {r r' i : ℕ} {O O' : List (Pay nD τ sig)} {s : Shape}

/-- A copy to a peer whose source share comes back at the peer, with the landing. -/
theorem send_landing (huS : used jS c x) (hrS : r < rds jS) (huR : used jR p c) (hrR : r' < rds jR)
    (hO : tallyL O = tallyL O' + tallyAt (cell jR p c) i N)
    {src : Memref sig .tc .vmem s .f32} {dst : Memref sig .tc .vmem s .f32} (hN : dst.view.dmaCredit = N) {sS sR : DmaSem sig} (hS : sS = smN jS x) (hR : sR = smN jR c)
    {hsc} {hsrc : src.view.WordExact} {hdst : dst.view.WordExact} {hsem} {f} {q : PosShare TreeShare} {X : s.Idx → Elt F .f32} {Fr : sProp 𝕄} {P P' : sProp 𝕄} {Q : α → sProp 𝕄}
    (hpay₁ : (emp : sProp 𝕄) ⊢ payD m jS c x r)
    (hpay₂ : iprop((own p dst X ∗ Fr) ∗ owns (c : Thread nD τ) src q X) ⊢ payD m jR p c r')
    (acc : P ⊢ iprop((records m K ∗ levAts (L 9) lv ∗ OW (F := F) c O ∗ owns (c : Thread nD τ) src q X ∗ anyO (F := F) p dst ∗ Fr
        ∗ (dutyTok ER (cell jS c x) r (0 : Dev nD) ∗ reached ER (cell jS c x) r) ∗ (dutyTok ER (cell jR p c) r' (0 : Dev nD) ∗ reached ER (cell jR p c) r'))
      ∗ ((OW (F := F) c O' ∗ cred (tallyAt (cell jS c x) 0 N)) -∗ P')))
    (h : P' ⊢ WP c (f ⟨⟩) Q) :
    P ⊢ WP c (.op (.enqueueDma src (.remote (Dev.tc p) dst (.dma sS) hsc) (.dma sR) hsrc hdst hsem) f) Q := by
  subst hS hR
  refine acc.trans ?_
  unfold OW anyO own owns
  iintro ⟨⟨#Hr, -, ⟨%W, Ho⟩, ⟨%fs, %hfs, Hs⟩, ⟨%Y, %fd, -, Hd⟩, HF, ⟨HtS, HrS⟩, HtR, HrR⟩, Hb⟩
  iapply (wp_send_landing_pointsTo_with 𝒱₀ ER (Rd (F := F) m) (c : Thread nD τ) none (c' := (p : Thread nD τ)) (src := src) (dst := dst) (hsc := hsc)
      (sS := .dma (smN jS x)) (sem := .dma (smN jR c)) (q := q) (fs := fs) (fd := fd) (F := Fr) (r₁ := r) (r₂ := r') (d₁ := 0) (d₂ := 0)
      (κ₁ := K (c, some (jS, x))) (κ₂ := K (p, some (jR, c)))
      (by rw [duties_used m jS c x r huS hrS]; exact Finset.mem_singleton_self _) (by rw [duties_used m jR p c r' huR hrR]; exact Finset.mem_singleton_self _)
      i 0 N hN rfl rfl (O₀ := tallyL O) (tallyL O') hO (W := W)
      (by rw [payload_cell]; exact hpay₁)
      (by
        rw [payload_cell]
        refine BIBase.Entails.trans ?_ hpay₂
        unfold own owns
        iintro ⟨⟨Hd, HF⟩, Hs⟩
        isplitl [Hd HF]
        · isplitl [Hd]
          · iexists dst.view.write (Elt F) fd (src.view.read (Elt F) fs) Finset.univ
            isplitr
            · ipureintro; rw [← hfs]; exact View.read_write_univ (v := dst.view) fd _
            · iexact Hd
          · iexact HF
        · iexists fs
          isplitr
          · ipureintro; exact hfs
          · iexact Hs)) $$ [Ho Hs Hd HF HtS HrS HtR HrR]
  · isplitr; · iapply (inv_cell m K jS c x) $$ Hr
    isplitr; · iapply (inv_cell m K jR p c) $$ Hr
    isplitl [Hs]; · iexact Hs
    isplitl [Hd HF]
    · isplitl [Hd] <;> iassumption
    isplitl [Ho]; · iexact Ho
    isplitl [HtS]; · iexact HtS
    isplitl [HrS]; · iexact HrS
    isplitl [HtR] <;> iassumption
  iintro ⟨Hc, Ho⟩
  iapply h
  iapply Hb
  isplitl [Ho]
  · iexists W; iexact Ho
  · iexact Hc

/-- A copy to a peer whose source share comes back with the departure. -/
theorem send_departing (huS : used jS c x) (hrS : r < rds jS) (huR : used jR p c) (hrR : r' < rds jR)
    (hO : tallyL O = tallyL O' + tallyAt (cell jR p c) i N)
    {src : Memref sig .tc .vmem s .f32} {dst : Memref sig .tc .vmem s .f32} (hN : dst.view.dmaCredit = N) {sS sR : DmaSem sig} (hS : sS = smN jS x) (hR : sR = smN jR c)
    {hsc} {hsrc : src.view.WordExact} {hdst : dst.view.WordExact} {hsem} {f} {q : PosShare TreeShare} {X : s.Idx → Elt F .f32} {Fr : sProp 𝕄} {P P' : sProp 𝕄} {Q : α → sProp 𝕄}
    (hpay₁ : owns (c : Thread nD τ) src q X ⊢ payD m jS c x r)
    (hpay₂ : iprop(own p dst X ∗ Fr) ⊢ payD m jR p c r')
    (acc : P ⊢ iprop((records m K ∗ levAts (L 9) lv ∗ OW (F := F) c O ∗ owns (c : Thread nD τ) src q X ∗ anyO (F := F) p dst ∗ Fr
        ∗ (dutyTok ER (cell jS c x) r (0 : Dev nD) ∗ reached ER (cell jS c x) r) ∗ (dutyTok ER (cell jR p c) r' (0 : Dev nD) ∗ reached ER (cell jR p c) r'))
      ∗ ((OW (F := F) c O' ∗ cred (tallyAt (cell jS c x) 0 N)) -∗ P')))
    (h : P' ⊢ WP c (f ⟨⟩) Q) :
    P ⊢ WP c (.op (.enqueueDma src (.remote (Dev.tc p) dst (.dma sS) hsc) (.dma sR) hsrc hdst hsem) f) Q := by
  subst hS hR
  refine acc.trans ?_
  unfold OW anyO own owns
  iintro ⟨⟨#Hr, -, ⟨%W, Ho⟩, ⟨%fs, %hfs, Hs⟩, ⟨%Y, %fd, -, Hd⟩, HF, ⟨HtS, HrS⟩, HtR, HrR⟩, Hb⟩
  iapply (wp_send_pointsTo_with 𝒱₀ ER (Rd (F := F) m) (c : Thread nD τ) none (c' := (p : Thread nD τ)) (src := src) (dst := dst) (hsc := hsc)
      (sS := .dma (smN jS x)) (sem := .dma (smN jR c)) (q := q) (fs := fs) (fd := fd) (F := Fr) (r₁ := r) (r₂ := r') (d₁ := 0) (d₂ := 0)
      (κ₁ := K (c, some (jS, x))) (κ₂ := K (p, some (jR, c)))
      (by rw [duties_used m jS c x r huS hrS]; exact Finset.mem_singleton_self _) (by rw [duties_used m jR p c r' huR hrR]; exact Finset.mem_singleton_self _)
      i 0 N hN rfl rfl (O₀ := tallyL O) (tallyL O') hO (W := W)
      (by
        rw [payload_cell]
        refine BIBase.Entails.trans ?_ hpay₁
        unfold owns
        iintro Hs
        iexists fs
        isplitr
        · ipureintro; exact hfs
        · iexact Hs)
      (by
        rw [payload_cell]
        refine BIBase.Entails.trans ?_ hpay₂
        unfold own owns
        iintro ⟨Hd, HF⟩
        isplitl [Hd]
        · iexists dst.view.write (Elt F) fd (src.view.read (Elt F) fs) Finset.univ
          isplitr
          · ipureintro; rw [← hfs]; exact View.read_write_univ (v := dst.view) fd _
          · iexact Hd
        · iexact HF)) $$ [Ho Hs Hd HF HtS HrS HtR HrR]
  · isplitr; · iapply (inv_cell m K jS c x) $$ Hr
    isplitr; · iapply (inv_cell m K jR p c) $$ Hr
    isplitl [Hs]; · iexact Hs
    isplitl [Hd HF]
    · isplitl [Hd] <;> iassumption
    isplitl [Ho]; · iexact Ho
    isplitl [HtS]; · iexact HtS
    isplitl [HrS]; · iexact HrS
    isplitl [HtR] <;> iassumption
  iintro ⟨Hc, Ho⟩
  iapply h
  iapply Hb
  isplitl [Ho]
  · iexists W; iexact Ho
  · iexact Hc

end Send

/-! ## The entry barrier -/

/-- One signal: one's row blocks for the peer handed over. -/
theorem step_bar {k : ℕ} (h1 : 1 ≤ k) (h2 : k < 16) {d : Dev nD} (hd : d = pr c k) {f} {Q : α → sProp 𝕄}
    (h : TD m K c (k + 1) ⊢ WP c (f ⟨⟩) Q) :
    TD m K c k ⊢ WP c (.op (.semSignal (d, .tc) barS (1#32 : BitVec 32).toInt) f) Q := by
  subst hd
  have hsplit : TD m K c k ⊢ iprop((records m K ∗ OW (F := F) c (dBar c k) ∗ Dg (F := F) c k) ∗ (OW (F := F) c (dBar c (k + 1)) -∗ TD m K c (k + 1))) := by
    unfold TD
    rw [bigSep_Ico_succ_bot h2]
    iintro ⟨⟨#Hr, Hl, Ho, Hw, Hi⟩, Hc, ⟨Hd, Hds⟩, Hp⟩
    isplitl [Ho Hd]
    · isplitr; · iexact Hr
      isplitl [Ho] <;> iassumption
    iintro Ho
    isplitl [Hl Ho Hw Hi]
    · isplitr; · iexact Hr
      isplitl [Hl]; · iexact Hl
      isplitl [Ho]; · iexact Ho
      isplitl [Hw] <;> iassumption
    isplitl [Hc]; · iexact Hc
    isplitl [Hds] <;> iassumption
  refine hsplit.trans ?_
  unfold OW Dg
  iintro ⟨⟨#Hr, ⟨%W, Ho⟩, Ht, Hx, Hy⟩, Hb⟩
  iapply (wp_signal 𝒱₀ ER (Rd (F := F) m) (c : Thread nD τ) none (dst := (pr c k : Thread nD τ)) (sem := barS) (r := 0) (d := c) (k' := 1) (O₀ := tallyL (dBar c k))
      (κ := K (pr c k, none)) (by rw [duties_bar]; exact Finset.mem_erase.mpr ⟨(pr_ne c h1 h2).symm, Finset.mem_univ _⟩)
      (amount_bar m _ _ _) 1 (tallyL (dBar c (k + 1)))
      (by rw [dBar_cons c h2, owe_cons])) $$ [Ho Ht Hx Hy]
  · isplitr; · iapply (inv_bar m K (pr c k)) $$ Hr
    isplitl [Ho]; · iexact Ho
    isplitl [Ht]; · iexact Ht
    isplitl [Hx Hy]
    · rw [payload_bar]; unfold barPay
      isplitl [Hx]; · iexact Hx
      isplitl [Hy]; · iexact Hy
      iapply (open_cell m K 1 c (pr c k)) $$ Hr
    · iapply (open_bar m K (pr c k)) $$ Hr
  iintro Ho
  iapply h
  iapply Hb
  iexists W
  iexact Ho

/-! ## One peer's bundle in a state -/

section Acc

variable {O O' : List (Pay nD τ sig)}

/-- A step of peer `k`'s bundle is a step of the state. -/
theorem it_acc {A B : ℕ → sProp 𝕄} {lc Nd Gv : sProp 𝕄} {k : ℕ} (h1 : 1 ≤ k) (h2 : k < 16)
    (hB : B k ⊢ iprop(Nd ∗ (Gv -∗ A k))) :
    iprop(base m K c O ∗ lc ∗ It A B k)
      ⊢ iprop((records m K ∗ levAts (L 9) lv ∗ OW (F := F) c O ∗ Nd) ∗ ((OW (F := F) c O' ∗ Gv) -∗ iprop(base m K c O' ∗ lc ∗ It A B (k + 1)))) := by
  unfold base
  iintro ⟨⟨#Hr, #Hl, Ho, Hw, Hi⟩, Hloc, Hit⟩
  ihave Hit' := (It_next A B h1 h2) $$ Hit
  icases Hit' with ⟨HB, Hb⟩
  ihave HB' := hB $$ HB
  icases HB' with ⟨HN, HG⟩
  isplitl [Ho HN]
  · isplitr; · iexact Hr
    isplitr; · iexact Hl
    isplitl [Ho] <;> iassumption
  iintro ⟨Ho, Hg⟩
  isplitl [Ho Hw Hi]
  · isplitr; · iexact Hr
    isplitr; · iexact Hl
    isplitl [Ho]; · iexact Ho
    isplitl [Hw] <;> iassumption
  isplitl [Hloc]; · iexact Hloc
  iapply Hb
  iapply HG
  iexact Hg

/-- A step that leaves the bundle on its way. -/
theorem mid_acc {A B : ℕ → sProp 𝕄} {lc Nd Gv M : sProp 𝕄} {k : ℕ} (h1 : 1 ≤ k) (h2 : k < 16)
    (hB : B k ⊢ iprop(Nd ∗ (Gv -∗ M))) :
    iprop(base m K c O ∗ lc ∗ It A B k)
      ⊢ iprop((records m K ∗ levAts (L 9) lv ∗ OW (F := F) c O ∗ Nd)
        ∗ ((OW (F := F) c O' ∗ Gv) -∗ iprop(base m K c O' ∗ lc ∗ M ∗ (A k -∗ It A B (k + 1))))) := by
  unfold base
  iintro ⟨⟨#Hr, #Hl, Ho, Hw, Hi⟩, Hloc, Hit⟩
  ihave Hit' := (It_next A B h1 h2) $$ Hit
  icases Hit' with ⟨HB, Hb⟩
  ihave HB' := hB $$ HB
  icases HB' with ⟨HN, HG⟩
  isplitl [Ho HN]
  · isplitr; · iexact Hr
    isplitr; · iexact Hl
    isplitl [Ho] <;> iassumption
  iintro ⟨Ho, Hg⟩
  isplitl [Ho Hw Hi]
  · isplitr; · iexact Hr
    isplitr; · iexact Hl
    isplitl [Ho]; · iexact Ho
    isplitl [Hw] <;> iassumption
  isplitl [Hloc]; · iexact Hloc
  isplitl [HG Hg]
  · iapply HG
    iexact Hg
  · iexact Hb

/-- The step that brings it home. -/
theorem mid_end {A B : ℕ → sProp 𝕄} {lc Nd Gv M : sProp 𝕄} {k : ℕ} (hB : M ⊢ iprop(Nd ∗ (Gv -∗ A k))) :
    iprop(base m K c O ∗ lc ∗ M ∗ (A k -∗ It A B (k + 1)))
      ⊢ iprop((records m K ∗ levAts (L 9) lv ∗ OW (F := F) c O ∗ Nd) ∗ ((OW (F := F) c O' ∗ Gv) -∗ iprop(base m K c O' ∗ lc ∗ It A B (k + 1)))) := by
  unfold base
  iintro ⟨⟨#Hr, #Hl, Ho, Hw, Hi⟩, Hloc, HB, Hb⟩
  ihave HB' := hB $$ HB
  icases HB' with ⟨HN, HG⟩
  isplitl [Ho HN]
  · isplitr; · iexact Hr
    isplitr; · iexact Hl
    isplitl [Ho] <;> iassumption
  iintro ⟨Ho, Hg⟩
  isplitl [Ho Hw Hi]
  · isplitr; · iexact Hr
    isplitr; · iexact Hl
    isplitl [Ho]; · iexact Ho
    isplitl [Hw] <;> iassumption
  isplitl [Hloc]; · iexact Hloc
  iapply Hb
  iapply HG
  iexact Hg

end Acc

/-! ## The bundle's steps -/

section Bundle

variable {l k : ℕ}

theorem kd_lt (h2 : k < 16) : (kd k).val = k := by rw [kd_val, Nat.mod_eq_of_lt h2]
theorem used_dep (j : ℕ) (hj : j % 2 = 0) (h1 : 1 ≤ k) (h2 : k < 16) : used j c (kd k) := by
  unfold used; rw [if_pos hj]; exact kd_ne_zero h1 h2
theorem used_arr (j : ℕ) (hj : ¬ j % 2 = 0) (h1 : 1 ≤ k) (h2 : k < 16) : used j c (pr c k) := by
  unfold used; rw [if_neg hj]; exact pr_ne c h1 h2
theorem used_arr' (j : ℕ) (hj : ¬ j % 2 = 0) (h1 : 1 ≤ k) (h2 : k < 16) : used j (pr c k) c := by
  unfold used; rw [if_neg hj]; exact (pr_ne c h1 h2).symm

theorem any_of_own (d : Dev nD) {s : Shape} (M : Memref sig .tc .vmem s .f32) (X : s.Idx → Elt F .f32) : own d M X ⊢ anyO (F := F) d M := by
  unfold anyO; iintro H; iexists X; iexact H

theorem ag_bundle (hl : l < 3) : B0 m c l k ⊢ iprop((owns (c : Thread nD τ) msM (lf k) (Xv m l c) ∗ anyO (F := F) (pr c k) (row xfM c)
      ∗ iprop(anyO (F := F) c (slot (pr c k)) ∗ reached ER (cell 3 c (pr c k)) l)
      ∗ (dutyTok ER (cell 0 c (kd k)) l (0 : Dev nD) ∗ reached ER (cell 0 c (kd k)) l) ∗ (dutyTok ER (cell 1 (pr c k) c) l (0 : Dev nD) ∗ reached ER (cell 1 (pr c k) c) l))
    ∗ (cred (tallyAt (cell 0 c (kd k)) 0 N) -∗ B1 (F := F) c l k)) := by
  unfold B0 B0r B1 xfT
  rw [if_pos hl, fut_next (cell 1 (pr c k) c) (show l < 4 by omega), fut_next (cell 0 c (kd k)) (show l < 4 by omega)]
  iintro ⟨⟨⟨⟨T1, F1⟩, ⟨T0, F0⟩, F3, F2⟩, ⟨C1, C3⟩, P, ⟨R0, R1, R2, R3⟩, Hp, Hs, Ho, Hx⟩, Hm⟩
  isplitl [T1 T0 R0 R1 R3 Hs Hx Hm]
  · isplitl [Hm]; · iexact Hm
    isplitl [Hx]; · iexact Hx
    isplitl [Hs R3]
    · isplitl [Hs] <;> iassumption
    isplitl [T0 R0]
    · isplitl [T0] <;> iassumption
    · isplitl [T1] <;> iassumption
  iintro Hc
  isplitl [F1 F0 F3 F2]
  · isplitl [F1]; · iexact F1
    isplitl [F0]; · iexact F0
    isplitl [F3] <;> iassumption
  isplitl [C1 C3 Hc]
  · isplitl [C1]; · iexact C1
    isplitl [C3] <;> iassumption
  isplitl [P]; · iexact P
  isplitl [R2]; · iexact R2
  isplitl [Hp] <;> iassumption

theorem agw_bundle (hl : l < 3) : B1 (F := F) c l k ⊢ iprop((cred (tallyAt (cell 1 c (pr c k)) (2 + 2 * l) N) ∗ pos (F := F) 1 c (pr c k) l)
    ∗ ((pos (F := F) 1 c (pr c k) (l + 1) ∗ reached ER (cell 1 c (pr c k)) (l + 1) ∗ payD m (1 : Fin 4) c (pr c k) l)
      -∗ B1w m c l k (anyO (F := F) c (row ptM (pr c k))))) := by
  have hpay : payD m (1 : Fin 4) c (pr c k) l = agPay m c (pr c k) l := rfl
  unfold B1 B1w
  rw [hpay, agPay, if_pos hl, fcr_next (cell 1 c (pr c k)) 2 (show l < 4 by omega)]
  iintro ⟨Fu, ⟨⟨Cr, C1⟩, C3, C0⟩, ⟨P0, P1, P2, P3⟩, R2, Hp, Ho⟩
  isplitl [Cr P1]
  · isplitl [Cr] <;> iassumption
  iintro ⟨P1, R1, ⟨Hx, Hs, Hm, R3⟩⟩
  isplitl [Fu]; · iexact Fu
  isplitl [C1 C3 C0]
  · isplitl [C1]; · iexact C1
    isplitl [C3] <;> iassumption
  isplitl [P0 P1 P2 P3]
  · isplitl [P0]; · iexact P0
    isplitl [P1]; · iexact P1
    isplitl [P2] <;> iassumption
  isplitl [R2 R1 R3]
  · isplitl [R2]; · iexact R2
    isplitl [R1] <;> iassumption
  isplitl [Hp]; · iexact Hp
  isplitl [Ho]; · iexact Ho
  isplitl [Hx]; · iexact Hx
  isplitl [Hs] <;> iassumption

/-- What a scatter copy of layer `l` hands over besides the part. -/
def rsFr (l k : ℕ) : sProp 𝕄 :=
  iprop(ms (pr c k) (gap (pr c k) c) (Xv m l (pr c k)) ∗ (if l < 2 then anyO (F := F) c (row xfM (pr c k)) else iprop(emp)) ∗ reached ER (cell 1 c (pr c k)) (l + 1))

theorem rs_bundle (hl : l < 3) : B1w m c l k (own c (row ptM (pr c k)) (Pv m l c (pr c k))) ⊢ iprop((owns (c : Thread nD τ) (row ptM (pr c k)) fullShare (Pv m l c (pr c k))
      ∗ anyO (F := F) (pr c k) (slot c) ∗ rsFr m c l k
      ∗ (dutyTok ER (cell 2 c (kd k)) l (0 : Dev nD) ∗ reached ER (cell 2 c (kd k)) l) ∗ (dutyTok ER (cell 3 (pr c k) c) l (0 : Dev nD) ∗ reached ER (cell 3 (pr c k) c) l))
    ∗ (cred (tallyAt (cell 2 c (kd k)) 0 N) -∗ B2 (F := F) c l k)) := by
  have hx : own c (row xfM (pr c k)) (Xv m l (pr c k))
      ⊢ iprop((if l < 2 then anyO (F := F) c (row xfM (pr c k)) else iprop(emp)) ∗ (if l < 2 then iprop(emp) else anyO (F := F) c (row xfM (pr c k)))) := by
    by_cases h : l < 2
    · simp only [if_pos h]
      iintro H
      isplitl [H]
      · iapply (any_of_own c (row xfM (pr c k)) (Xv m l (pr c k))) $$ H
      · iempintro
    · simp only [if_neg h]
      iintro H
      isplitr
      · iempintro
      · iapply (any_of_own c (row xfM (pr c k)) (Xv m l (pr c k))) $$ H
  unfold B1w B2 rsFr
  rw [fut_next (cell 3 (pr c k) c) hl, fut_next (cell 2 c (kd k)) hl]
  iintro ⟨⟨F1, F0, ⟨T3, F3⟩, ⟨T2, F2⟩⟩, ⟨C1, C3, C0⟩, P, ⟨R2, R1, R3⟩, Hp, Ho, Hx, Hs, Hm⟩
  ihave Hx' := hx $$ Hx
  icases Hx' with ⟨Hx1, Hx2⟩
  isplitl [T3 T2 R2 R1 R3 Hp Hx1 Hs Hm]
  · isplitl [Hp]; · iexact Hp
    isplitl [Hs]; · iexact Hs
    isplitl [Hm Hx1 R1]
    · isplitl [Hm]; · iexact Hm
      isplitl [Hx1] <;> iassumption
    isplitl [T2 R2]
    · isplitl [T2] <;> iassumption
    · isplitl [T3] <;> iassumption
  iintro Hc
  isplitl [F1 F0 F3 F2]
  · isplitl [F1]; · iexact F1
    isplitl [F0]; · iexact F0
    isplitl [F3] <;> iassumption
  isplitl [C1 C3 C0 Hc]
  · isplitl [C1]; · iexact C1
    isplitl [C3]; · iexact C3
    isplitl [C0] <;> iassumption
  isplitl [P]; · iexact P
  isplitl [Ho] <;> iassumption

theorem rsw_bundle (hl : l < 3) (h2 : k < 16) : B2 (F := F) c l k ⊢ iprop((cred (tallyAt (cell 3 c (pr c k)) (3 + 2 * l) N) ∗ pos (F := F) 3 c (pr c k) l)
    ∗ ((pos (F := F) 3 c (pr c k) (l + 1) ∗ reached ER (cell 3 c (pr c k)) (l + 1) ∗ payD m (3 : Fin 4) c (pr c k) l)
      -∗ B3 m c l (Xv m l c) k)) := by
  have hpay : payD m (3 : Fin 4) c (pr c k) l = rsPay m c (pr c k) l := rfl
  have hx : iprop((if l < 2 then anyO (F := F) (pr c k) (row xfM c) else iprop(emp)) ∗ (if l < 2 then iprop(emp) else anyO (F := F) c (row xfM (pr c k))))
      ⊢ xfT (F := F) c (l + 1) k := by
    unfold xfT
    by_cases h : l < 2
    · simp only [if_pos h, if_pos (show l + 1 < 3 by omega)]
      iintro ⟨H, -⟩; iexact H
    · simp only [if_neg h, if_neg (show ¬ l + 1 < 3 by omega)]
      iintro ⟨-, H⟩; iexact H
  unfold B2 B3 B3r
  rw [hpay, rsPay, gap_pr c h2, fcr_next (cell 3 c (pr c k)) 3 hl]
  iintro ⟨Fu, ⟨C1, ⟨Cr, C3⟩, C0, C2⟩, ⟨P0, P1, P2, P3⟩, Ho, Hx⟩
  isplitl [Cr P3]
  · isplitl [Cr] <;> iassumption
  iintro ⟨P3, R3, ⟨Hs, Hm, Hx', R1⟩⟩
  isplitr [Hm]
  · isplitl [Fu]; · iexact Fu
    isplitl [C1 C3 C0 C2]
    · isplitl [C1]; · iexact C1
      isplitl [C3]; · iexact C3
      isplitl [C0] <;> iassumption
    isplitl [P0 P1 P2 P3]
    · isplitl [P0]; · iexact P0
      isplitl [P1]; · iexact P1
      isplitl [P2] <;> iassumption
    isplitl [R1 R3]
    · isplitl [R1] <;> iassumption
    isplitl [Ho]; · iexact Ho
    isplitl [Hx Hx']
    · iapply hx
      isplitl [Hx'] <;> iassumption
    · iexact Hs
  · iexact Hm

theorem agd_bundle : B3 m c l (Xv m (l + 1) c) k ⊢ iprop((cred (tallyAt (cell 0 c (kd k)) 0 N) ∗ pos (F := F) 0 c (kd k) l)
    ∗ ((pos (F := F) 0 c (kd k) (l + 1) ∗ reached ER (cell 0 c (kd k)) (l + 1) ∗ payD m (0 : Fin 4) c (kd k) l) -∗ B4 m c l k)) := by
  unfold B3 B3r B4
  iintro ⟨⟨Fu, ⟨C1, C3, C0, C2⟩, ⟨P0, P1, P2, P3⟩, ⟨R1, R3⟩, Ho, Hx, Hs⟩, Hm⟩
  isplitl [C0 P0]
  · isplitl [C0] <;> iassumption
  iintro ⟨P0, R0, -⟩
  isplitl [Fu]; · iexact Fu
  isplitl [C1 C3 C2]
  · isplitl [C1]; · iexact C1
    isplitl [C3] <;> iassumption
  isplitl [P0 P1 P2 P3]
  · isplitl [P0]; · iexact P0
    isplitl [P1]; · iexact P1
    isplitl [P2] <;> iassumption
  isplitl [R0 R1 R3]
  · isplitl [R0]; · iexact R0
    isplitl [R1] <;> iassumption
  isplitl [Ho]; · iexact Ho
  isplitl [Hx]; · iexact Hx
  isplitl [Hs]
  · iapply (any_of_own c (slot (pr c k)) (Pv m l (pr c k) c)) $$ Hs
  · iexact Hm

theorem rsd_bundle (h2 : k < 16) : B4 m c l k ⊢ iprop((cred (tallyAt (cell 2 c (kd k)) 0 N) ∗ pos (F := F) 2 c (kd k) l)
    ∗ ((pos (F := F) 2 c (kd k) (l + 1) ∗ reached ER (cell 2 c (kd k)) (l + 1) ∗ payD m (2 : Fin 4) c (kd k) l) -∗ B0 m c (l + 1) k)) := by
  have hpay : payD m (2 : Fin 4) c (kd k) l = anyO (F := F) c (row ptM (pr c (kd k).val)) := rfl
  unfold B4 B0 B0r
  rw [hpay, kd_lt h2]
  iintro ⟨Fu, ⟨C1, C3, C2⟩, ⟨P0, P1, P2, P3⟩, ⟨R0, R1, R3⟩, Ho, Hx, Hs, Hm⟩
  isplitl [C2 P2]
  · isplitl [C2] <;> iassumption
  iintro ⟨P2, R2, Hp⟩
  isplitr [Hm]
  · isplitl [Fu]; · iexact Fu
    isplitl [C1 C3]
    · isplitl [C1] <;> iassumption
    isplitl [P0 P1 P2 P3]
    · isplitl [P0]; · iexact P0
      isplitl [P1]; · iexact P1
      isplitl [P2] <;> iassumption
    isplitl [R0 R1 R2 R3]
    · isplitl [R0]; · iexact R0
      isplitl [R1]; · iexact R1
      isplitl [R2] <;> iassumption
    isplitl [Hp]; · iexact Hp
    isplitl [Hs]; · iexact Hs
    isplitl [Ho] <;> iassumption
  · iexact Hm

theorem fg_bundle : B0 m c 3 k ⊢ iprop((owns (c : Thread nD τ) msM (lf k) (Xv m 3 c) ∗ anyO (F := F) (pr c k) (row outM c)
      ∗ iprop(emp)
      ∗ (dutyTok ER (cell 0 c (kd k)) 3 (0 : Dev nD) ∗ reached ER (cell 0 c (kd k)) 3) ∗ (dutyTok ER (cell 1 (pr c k) c) 3 (0 : Dev nD) ∗ reached ER (cell 1 (pr c k) c) 3))
    ∗ (cred (tallyAt (cell 0 c (kd k)) 0 N) -∗ C1 (F := F) c k)) := by
  unfold B0 B0r C1 xfT
  rw [if_neg (show ¬ 3 < 3 by omega), fut_next (cell 1 (pr c k) c) (show 3 < 4 by omega), fut_next (cell 0 c (kd k)) (show 3 < 4 by omega),
    fcr_next (cell 1 c (pr c k)) 2 (show 3 < 4 by omega)]
  iintro ⟨⟨⟨⟨T1, -⟩, ⟨T0, -⟩, -, -⟩, ⟨⟨C1, -⟩, -⟩, P, ⟨R0, R1, -, -⟩, Hp, Hs, Ho, Hx⟩, Hm⟩
  isplitl [T1 T0 R0 R1 Ho Hm]
  · isplitl [Hm]; · iexact Hm
    isplitl [Ho]; · iexact Ho
    isplitr; · iempintro
    isplitl [T0 R0]
    · isplitl [T0] <;> iassumption
    · isplitl [T1] <;> iassumption
  iintro Hc
  isplitl [C1 Hc]
  · isplitl [C1] <;> iassumption
  isplitl [P]; · iexact P
  isplitl [Hp]; · iexact Hp
  isplitl [Hs] <;> iassumption

theorem fgw_bundle : C1 (F := F) c k ⊢ iprop((cred (tallyAt (cell 1 c (pr c k)) 8 N) ∗ pos (F := F) 1 c (pr c k) 3)
    ∗ ((pos (F := F) 1 c (pr c k) (3 + 1) ∗ reached ER (cell 1 c (pr c k)) (3 + 1) ∗ payD m (1 : Fin 4) c (pr c k) 3) -∗ C2 m c k)) := by
  have hpay : payD m (1 : Fin 4) c (pr c k) 3 = own c (row outM (pr c k)) (Xv m 3 (pr c k)) := by
    show agPay m c (pr c k) 3 = _
    unfold agPay; rw [if_neg (by omega)]
  unfold C1 C2
  rw [hpay]
  iintro ⟨⟨Cr, C0⟩, ⟨P0, P1, P2, P3⟩, Hp, Hs, Hx⟩
  isplitl [Cr P1]
  · isplitl [Cr] <;> iassumption
  iintro ⟨P1, -, Ho⟩
  isplitl [C0]; · iexact C0
  isplitl [P0 P1 P2 P3]
  · isplitl [P0]; · iexact P0
    isplitl [P1]; · iexact P1
    isplitl [P2] <;> iassumption
  isplitl [Hp]; · iexact Hp
  isplitl [Hs]; · iexact Hs
  isplitl [Hx] <;> iassumption

theorem fgd_bundle (h2 : k < 16) : C2 m c k ⊢ iprop((cred (tallyAt (cell 0 c (kd k)) 0 N) ∗ pos (F := F) 0 c (kd k) 3)
    ∗ ((pos (F := F) 0 c (kd k) (3 + 1) ∗ reached ER (cell 0 c (kd k)) (3 + 1) ∗ payD m (0 : Fin 4) c (kd k) 3) -∗ C3 m c k)) := by
  have hpay : payD m (0 : Fin 4) c (kd k) 3 = ms c (kd k).val (Xv m 3 c) := by
    show agsPay m c (kd k) 3 = _
    unfold agsPay; rw [if_neg (by omega)]
  unfold C2 C3
  rw [hpay, kd_lt h2]
  iintro ⟨C0, ⟨P0, P1, P2, P3⟩, Hp, Hs, Hx, Ho⟩
  isplitl [C0 P0]
  · isplitl [C0] <;> iassumption
  iintro ⟨P0, -, Hm⟩
  isplitl [P0 P1 P2 P3]
  · isplitl [P0]; · iexact P0
    isplitl [P1]; · iexact P1
    isplitl [P2] <;> iassumption
  isplitl [Hp]; · iexact Hp
  isplitl [Hs]; · iexact Hs
  isplitl [Hx]; · iexact Hx
  isplitl [Ho] <;> iassumption

end Bundle

end Cert.MlpProof

end
-- ==== Proof.Ops.lean ====
/-
# The operations between two states: accesses

Each load, store or barrier wait of the program leads from one state of the run to the next.
-/
module

public import proofs.«01_k».proof.Proof.Steps

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F]

local notation "𝕄" => MT nD τ sig ℕ (Elt F) ℕ UU ℕ

variable (m : (ℓ : Loc nD τ sig) → Buf (Elt F) ℓ)

variable (K : Dev nD × CI → ℕ) (c : Dev nD) {α : Type}

/-! ## Rearranging the assertion of a state -/

section Parts

variable {O : List (Pay nD τ sig)}

theorem part_x {x x' p o s M : sProp 𝕄} : iprop(base m K c O ∗ loc x p o s ∗ M) ⊢ iprop(x ∗ (x' -∗ iprop(base m K c O ∗ loc x' p o s ∗ M))) := by
  unfold loc
  iintro ⟨Hb, ⟨Hx, Hp, Ho, Hs⟩, HM⟩
  isplitl [Hx]; · iexact Hx
  iintro Hx
  isplitl [Hb]; · iexact Hb
  isplitr [HM]
  · isplitl [Hx]; · iexact Hx
    isplitl [Hp]; · iexact Hp
    isplitl [Ho] <;> iassumption
  · iexact HM
theorem part_p {x p p' o s M : sProp 𝕄} : iprop(base m K c O ∗ loc x p o s ∗ M) ⊢ iprop(p ∗ (p' -∗ iprop(base m K c O ∗ loc x p' o s ∗ M))) := by
  unfold loc
  iintro ⟨Hb, ⟨Hx, Hp, Ho, Hs⟩, HM⟩
  isplitl [Hp]; · iexact Hp
  iintro Hp
  isplitl [Hb]; · iexact Hb
  isplitr [HM]
  · isplitl [Hx]; · iexact Hx
    isplitl [Hp]; · iexact Hp
    isplitl [Ho] <;> iassumption
  · iexact HM
theorem part_o {x p o o' s M : sProp 𝕄} : iprop(base m K c O ∗ loc x p o s ∗ M) ⊢ iprop(o ∗ (o' -∗ iprop(base m K c O ∗ loc x p o' s ∗ M))) := by
  unfold loc
  iintro ⟨Hb, ⟨Hx, Hp, Ho, Hs⟩, HM⟩
  isplitl [Ho]; · iexact Ho
  iintro Ho
  isplitl [Hb]; · iexact Hb
  isplitr [HM]
  · isplitl [Hx]; · iexact Hx
    isplitl [Hp]; · iexact Hp
    isplitl [Ho] <;> iassumption
  · iexact HM
theorem part_s {x p o s s' M : sProp 𝕄} : iprop(base m K c O ∗ loc x p o s ∗ M) ⊢ iprop(s ∗ (s' -∗ iprop(base m K c O ∗ loc x p o s' ∗ M))) := by
  unfold loc
  iintro ⟨Hb, ⟨Hx, Hp, Ho, Hs⟩, HM⟩
  isplitl [Hs]; · iexact Hs
  iintro Hs
  isplitl [Hb]; · iexact Hb
  isplitr [HM]
  · isplitl [Hx]; · iexact Hx
    isplitl [Hp]; · iexact Hp
    isplitl [Ho] <;> iassumption
  · iexact HM
theorem part_m {M N' B C' : sProp 𝕄} (h : M ⊢ iprop(B ∗ (C' -∗ N'))) {R : sProp 𝕄} :
    iprop(base m K c O ∗ R ∗ M) ⊢ iprop(B ∗ (C' -∗ iprop(base m K c O ∗ R ∗ N'))) := by
  iintro ⟨Hb, HR, HM⟩
  ihave H := h $$ HM
  icases H with ⟨HB, HN⟩
  isplitl [HB]; · iexact HB
  iintro HC
  isplitl [Hb]; · iexact Hb
  isplitl [HR]; · iexact HR
  iapply HN
  iexact HC

/-- The weights of layer `l` as staged. -/
abbrev wiM : ℕ → Memref sig .tc .vmem S512x1024 .f32
  | 0 => wi0M
  | 1 => wi1M
  | _ => wi2M
abbrev woM : ℕ → Memref sig .tc .vmem S1024x512 .f32
  | 0 => wo0M
  | 1 => wo1M
  | _ => wo2M

theorem part_wi {l : ℕ} (hl : l < 3) {R : sProp 𝕄} :
    iprop(base m K c O ∗ R) ⊢ iprop(own c (wiM l) (Wi m l c) ∗ (own c (wiM l) (Wi m l c) -∗ iprop(base m K c O ∗ R))) := by
  have h : wts m c ⊢ iprop(own c (wiM l) (Wi m l c) ∗ (own c (wiM l) (Wi m l c) -∗ wts m c)) := by
    unfold wts
    rcases (show l = 0 ∨ l = 1 ∨ l = 2 by omega) with h | h | h <;> subst h <;> iintro ⟨H1, H2, H3, H4, H5, H6⟩
    · isplitl [H1]; · iexact H1
      iintro H1
      isplitl [H1]; · iexact H1
      isplitl [H2]; · iexact H2
      isplitl [H3]; · iexact H3
      isplitl [H4]; · iexact H4
      isplitl [H5] <;> iassumption
    · isplitl [H3]; · iexact H3
      iintro H3
      isplitl [H1]; · iexact H1
      isplitl [H2]; · iexact H2
      isplitl [H3]; · iexact H3
      isplitl [H4]; · iexact H4
      isplitl [H5] <;> iassumption
    · isplitl [H5]; · iexact H5
      iintro H5
      isplitl [H1]; · iexact H1
      isplitl [H2]; · iexact H2
      isplitl [H3]; · iexact H3
      isplitl [H4]; · iexact H4
      isplitl [H5] <;> iassumption
  unfold base
  iintro ⟨⟨Hr, Hl, Ho, Hw, Hi⟩, HR⟩
  ihave Hw' := h $$ Hw
  icases Hw' with ⟨H, Hb⟩
  isplitl [H]; · iexact H
  iintro H
  isplitr [HR]
  · isplitl [Hr]; · iexact Hr
    isplitl [Hl]; · iexact Hl
    isplitl [Ho]; · iexact Ho
    isplitl [Hb H]
    · iapply Hb
      iexact H
    · iexact Hi
  · iexact HR
theorem part_wo {l : ℕ} (hl : l < 3) {R : sProp 𝕄} :
    iprop(base m K c O ∗ R) ⊢ iprop(own c (woM l) (Wo m l c) ∗ (own c (woM l) (Wo m l c) -∗ iprop(base m K c O ∗ R))) := by
  have h : wts m c ⊢ iprop(own c (woM l) (Wo m l c) ∗ (own c (woM l) (Wo m l c) -∗ wts m c)) := by
    unfold wts
    rcases (show l = 0 ∨ l = 1 ∨ l = 2 by omega) with h | h | h <;> subst h <;> iintro ⟨H1, H2, H3, H4, H5, H6⟩
    · isplitl [H2]; · iexact H2
      iintro H2
      isplitl [H1]; · iexact H1
      isplitl [H2]; · iexact H2
      isplitl [H3]; · iexact H3
      isplitl [H4]; · iexact H4
      isplitl [H5] <;> iassumption
    · isplitl [H4]; · iexact H4
      iintro H4
      isplitl [H1]; · iexact H1
      isplitl [H2]; · iexact H2
      isplitl [H3]; · iexact H3
      isplitl [H4]; · iexact H4
      isplitl [H5] <;> iassumption
    · isplitl [H6]; · iexact H6
      iintro H6
      isplitl [H1]; · iexact H1
      isplitl [H2]; · iexact H2
      isplitl [H3]; · iexact H3
      isplitl [H4]; · iexact H4
      isplitl [H5] <;> iassumption
  unfold base
  iintro ⟨⟨Hr, Hl, Ho, Hw, Hi⟩, HR⟩
  ihave Hw' := h $$ Hw
  icases Hw' with ⟨H, Hb⟩
  isplitl [H]; · iexact H
  iintro H
  isplitr [HR]
  · isplitl [Hr]; · iexact Hr
    isplitl [Hl]; · iexact Hl
    isplitl [Ho]; · iexact Ho
    isplitl [Hb H]
    · iapply Hb
      iexact H
    · iexact Hi
  · iexact HR

end Parts

/-! ## Accesses at the program's own offsets -/

section Forms

variable {c} {f : PUnit → Prog (TpuEff nD τ sig (Elt F) Λ₀ .tc) α}

/-- A load whose value does not matter. -/
theorem load_any {sh : Shape} {Q : α → sProp 𝕄} {P : sProp 𝕄} {M : Memref sig .tc .vmem sh .f32} {r : Rect sh} (hr : ∀ a, r.stride a = 1) {hl : M.view.LoadsAt r.toLoadRect}
    {k : (r.toLoadRect.shape.Idx → Elt F .f32) → Prog (TpuEff nD τ sig (Elt F) Λ₀ .tc) α}
    (acc : P ⊢ iprop(anyO (F := F) c (M.slice r hr) ∗ (anyO (F := F) c (M.slice r hr) -∗ P)))
    (h : ∀ X, P ⊢ WP c (k X) Q) : P ⊢ WP c (.op (.load M r.toLoadRect hl) k) Q := by
  refine acc.trans ?_
  unfold anyO own owns
  iintro ⟨⟨%X, %f, %hf, H⟩, Hb⟩
  iapply (wp_load 𝒱₀ (c : Thread nD τ) none Set.univ (m := M) (r := r.toLoadRect) (hl := hl) (k := k)
    (S := (M.slice r hr).view.set) (q := fullShare) (f := f) (by rw [show (M.slice r hr).view.set = _ from View.set_slice M.view r]; exact Finset.Subset.refl _)) $$ H
  iintro H
  iapply (h _)
  iapply Hb
  iexists X
  iexists f
  isplitr
  · ipureintro; exact hf
  · iexact H

theorem row_eq {b : Memref sig .tc .vmem S1024x512 .f32} {s : Dev nD} {off : Fin 2 → ℕ} (ho : off = ![64 * s.val, 0]) {inb hs} :
    b.slice (Rect.unit (s := S1024x512) off S64x512.size inb) hs = row b s := by subst ho; rfl
theorem slot_eq {s : Dev nD} {off : Fin 3 → ℕ} (ho : off = ![s.val, 0, 0]) {inb hs} {hq : S1x64x512.Squeezes S64x512} :
    (rbM.slice (Rect.unit (s := S16x64x512) off S1x64x512.size inb) hs).squeeze S64x512 hq = slot s := by subst ho; rfl

theorem load_row {b : Memref sig .tc .vmem S1024x512 .f32} {s : Dev nD} {off : Fin 2 → ℕ} (ho : off = ![64 * s.val, 0]) {inb hl}
    {k} {q : PosShare TreeShare} {X : Blk F} {P : sProp 𝕄} {Q : α → sProp 𝕄}
    (acc : P ⊢ iprop(owns (c : Thread nD τ) (row b s) q X ∗ (owns (c : Thread nD τ) (row b s) q X -∗ P)))
    (h : P ⊢ WP c (k X) Q) : P ⊢ WP c (.op (.load b (Rect.unit (s := S1024x512) off S64x512.size inb).toLoadRect hl) k) Q := by
  subst ho; exact load_slice (fun _ => rfl) acc h
theorem load_row_any {b : Memref sig .tc .vmem S1024x512 .f32} {s : Dev nD} {off : Fin 2 → ℕ} (ho : off = ![64 * s.val, 0]) {inb hl}
    {k} {P : sProp 𝕄} {Q : α → sProp 𝕄}
    (acc : P ⊢ iprop(anyO (F := F) c (row b s) ∗ (anyO (F := F) c (row b s) -∗ P)))
    (h : ∀ X, P ⊢ WP c (k X) Q) : P ⊢ WP c (.op (.load b (Rect.unit (s := S1024x512) off S64x512.size inb).toLoadRect hl) k) Q := by
  subst ho; exact load_any (fun _ => rfl) acc h
theorem store_row {b : Memref sig .tc .vmem S1024x512 .f32} {s : Dev nD} {off : Fin 2 → ℕ} (ho : off = ![64 * s.val, 0]) {inb hx hm}
    {w X : Blk F} (hw : w = X) {P P' : sProp 𝕄} {Q : α → sProp 𝕄}
    (acc : P ⊢ iprop(anyO (F := F) c (row b s) ∗ (own c (row b s) X -∗ P')))
    (h : P' ⊢ WP c (f ⟨⟩) Q) : P ⊢ WP c (.op (.store b (Rect.unit (s := S1024x512) off S64x512.size inb) w Finset.univ hx hm) f) Q := by
  subst ho hw; exact store_slice (fun _ => rfl) acc h

/-- A whole buffer at the offset zero. -/
theorem load_whole {sh : Shape} {M : Memref sig .tc .vmem sh .f32} {off : Fin sh.rank → ℕ} {inb} {hl}
    {k} {q : PosShare TreeShare} {X : sh.Idx → Elt F .f32} (hM : (owns (c : Thread nD τ) (M.slice (Rect.unit (s := sh) off sh.size inb) (fun _ => rfl)) q X : sProp 𝕄) = owns (c : Thread nD τ) M q X)
    {P : sProp 𝕄} {Q : α → sProp 𝕄}
    (acc : P ⊢ iprop(owns (c : Thread nD τ) M q X ∗ (owns (c : Thread nD τ) M q X -∗ P)))
    (h : P ⊢ WP c (k X) Q) : P ⊢ WP c (.op (.load M (Rect.unit (s := sh) off sh.size inb).toLoadRect hl) k) Q := by
  rw [← hM] at acc
  exact load_slice (fun _ => rfl) acc h

theorem zero2 : (![0, 0] : Fin 2 → ℕ) = fun _ => 0 := by decide

theorem ms_whole (q : PosShare TreeShare) (X : Blk F) {inb hs} :
    (owns (c : Thread nD τ) (msM.slice (Rect.unit (s := S64x512) ![0, 0] S64x512.size inb) hs) q X : sProp 𝕄) = owns (c : Thread nD τ) msM q X :=
  owns_unit_zero (b := cc0_scratch3) c zero2 inb hs q X
theorem xM_whole (q : PosShare TreeShare) (X : Blk F) {inb hs} :
    (owns (c : Thread nD τ) (xM.slice (Rect.unit (s := S64x512) ![0, 0] S64x512.size inb) hs) q X : sProp 𝕄) = owns (c : Thread nD τ) xM q X :=
  owns_unit_zero (b := cc0_stg0_0) c zero2 inb hs q X
theorem wiM_whole (l : ℕ) (q : PosShare TreeShare) (X : S512x1024.Idx → Elt F .f32) {inb hs} :
    (owns (c : Thread nD τ) ((wiM l).slice (Rect.unit (s := S512x1024) ![0, 0] S512x1024.size inb) hs) q X : sProp 𝕄) = owns (c : Thread nD τ) (wiM l) q X :=
  match l with
  | 0 => owns_unit_zero (b := cc0_stg1_0) c zero2 inb hs q X
  | 1 => owns_unit_zero (b := cc0_stg3_0) c zero2 inb hs q X
  | _ + 2 => owns_unit_zero (b := cc0_stg5_0) c zero2 inb hs q X
theorem woM_whole (l : ℕ) (q : PosShare TreeShare) (X : S1024x512.Idx → Elt F .f32) {inb hs} :
    (owns (c : Thread nD τ) ((woM l).slice (Rect.unit (s := S1024x512) ![0, 0] S1024x512.size inb) hs) q X : sProp 𝕄) = owns (c : Thread nD τ) (woM l) q X :=
  match l with
  | 0 => owns_unit_zero (b := cc0_stg2_0) c zero2 inb hs q X
  | 1 => owns_unit_zero (b := cc0_stg4_0) c zero2 inb hs q X
  | _ + 2 => owns_unit_zero (b := cc0_stg6_0) c zero2 inb hs q X

theorem load_ms {inb hl} {k} {q : PosShare TreeShare} {X : Blk F} {P : sProp 𝕄} {Q : α → sProp 𝕄}
    (acc : P ⊢ iprop(owns (c : Thread nD τ) msM q X ∗ (owns (c : Thread nD τ) msM q X -∗ P)))
    (h : P ⊢ WP c (k X) Q) : P ⊢ WP c (.op (.load msM (Rect.unit (s := S64x512) ![0, 0] S64x512.size inb).toLoadRect hl) k) Q :=
  load_whole (ms_whole q X) acc h
theorem any_ms {inb hs} : anyO (F := F) c (msM.slice (Rect.unit (s := S64x512) ![0, 0] S64x512.size inb) hs) = anyO (F := F) c msM := by
  unfold anyO
  exact congrArg _ (funext fun X => ms_whole fullShare X)
theorem load_ms_any {inb hl} {k} {P : sProp 𝕄} {Q : α → sProp 𝕄}
    (acc : P ⊢ iprop(anyO (F := F) c msM ∗ (anyO (F := F) c msM -∗ P)))
    (h : ∀ X, P ⊢ WP c (k X) Q) : P ⊢ WP c (.op (.load msM (Rect.unit (s := S64x512) ![0, 0] S64x512.size inb).toLoadRect hl) k) Q := by
  refine load_any (fun _ => rfl) ?_ h
  rw [any_ms]; exact acc
theorem store_ms {inb hx hm} {w X : Blk F} (hw : w = X) {P P' : sProp 𝕄} {Q : α → sProp 𝕄}
    (acc : P ⊢ iprop(anyO (F := F) c msM ∗ (own c msM X -∗ P')))
    (h : P' ⊢ WP c (f ⟨⟩) Q) : P ⊢ WP c (.op (.store msM (Rect.unit (s := S64x512) ![0, 0] S64x512.size inb) w Finset.univ hx hm) f) Q := by
  subst hw
  refine store_slice (fun _ => rfl) ?_ h
  rw [any_ms]
  exact (congrArg (fun Z : sProp 𝕄 => P ⊢ iprop(anyO (F := F) c msM ∗ (Z -∗ P'))) (ms_whole (inb := inb) (hs := fun _ => rfl) fullShare w)).mpr acc

theorem load_slot {s : Dev nD} {off : Fin 3 → ℕ} (ho : off = ![s.val, 0, 0]) {inb hl} {k} {X : Blk F} {P : sProp 𝕄} {Q : α → sProp 𝕄}
    (acc : P ⊢ iprop(own c (slot s) X ∗ (own c (slot s) X -∗ P)))
    (h : P ⊢ WP c (k (unsq X)) Q) : P ⊢ WP c (.op (.load rbM (Rect.unit (s := S16x64x512) off S1x64x512.size inb).toLoadRect hl) k) Q := by
  subst ho
  refine load_slice (fun _ => rfl) (q := fullShare) (X := unsq X) ?_ h
  rw [own, own_slot] at acc; exact acc

end Forms

end Cert.MlpProof

end
-- ==== Proof.Moves.lean ====
/-
# The operations between two states: every operation of the program

One lemma per kind of operation and phase, leading from the state before it to the state after.
-/
module

public import proofs.«01_k».proof.Proof.Ops

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F]

local notation "𝕄" => MT nD τ sig ℕ (Elt F) ℕ UU ℕ

variable (m : (ℓ : Loc nD τ sig) → Buf (Elt F) ℓ)

variable (K : Dev nD × CI → ℕ) (c : Dev nD) {α : Type}

/-! ## The sixteen shares of one's slice -/

theorem ms_shares (X : Blk F) : own c msM X = iprop(ms c 0 X ∗ bigSep (Finset.Ico 1 16) fun k => ms c k X) := by
  have hl : (own c msM X : sProp 𝕄) = bigSep (Finset.univ : Finset (Fin 16)) fun i => ms c i.val X := by
    have h (k : ℕ) : (ms c k X : sProp 𝕄) = (((c : Thread nD τ).loc cc0_scratch3) ↦{lf k} X) := owns_whole (c : Thread nD τ) cc0_scratch3 (lf k) X
    rw [show (own c msM X : sProp 𝕄) = (((c : Thread nD τ).loc cc0_scratch3) ↦{fullShare} X) from owns_whole (c : Thread nD τ) cc0_scratch3 fullShare X]
    refine (ShareLeaves.pointsTo_leaves Finset.univ _ 4 fullShare).trans (bigSep_congr fun i _ => ?_)
    rw [h]
    unfold lf
    rw [show kd i.val = i from Fin.ext (by rw [kd_val]; exact Nat.mod_eq_of_lt i.isLt)]
  have hm : (Finset.univ : Finset (Fin 16)).map Fin.valEmbedding = Finset.Ico 0 16 := by decide
  rw [hl, show (bigSep (Finset.univ : Finset (Fin 16)) fun i => ms c i.val X) = bigSep (Finset.Ico 0 16) fun k => ms c k X from
    by rw [← hm, bigSep_map]; rfl]
  exact bigSep_Ico_succ_bot (by decide) _

/-! ## Entry -/

section Moves

variable {c} {f : PUnit → Prog (TpuEff nD τ sig (Elt F) Λ₀ .tc) α}

/-- The peers of a device, by place. -/
theorem peers_places (Φ : Dev nD → sProp 𝕄) : bigSep (Finset.univ.erase c) Φ = bigSep (Finset.Ico 1 16) fun k => Φ (pr c k) := by
  have hinj : Set.InjOn (pr c) (Finset.Ico 1 16 : Finset ℕ) := fun a ha b hb h => by
    have ha' := Finset.mem_Ico.mp (Finset.mem_coe.mp ha); have hb' := Finset.mem_Ico.mp (Finset.mem_coe.mp hb)
    have := congrArg Fin.val h; rw [pr_val, pr_val] at this; have := dev_lt c; omega
  have himg : (Finset.Ico 1 16).image (pr c) = Finset.univ.erase c := by revert c; decide
  rw [← himg, bigSep_image_of_injOn hinj]

/-- The entry barrier's wait. -/
theorem e_wait {Q : α → sProp 𝕄} (h : TE m K c ⊢ WP c (f ⟨⟩) Q) :
    TD m K c 16 ⊢ WP c (.op (.semWait barS (15#32 : BitVec 32).toInt) f) Q := by
  have hsplit : TD m K c 16 ⊢ iprop((records m K ∗ levAts (L 9) lv ∗ OW (F := F) c (dAG c 0 1) ∗ cred (tallyAt (barCell c) 1 15) ∗ atPos ER (barCell c) 0 ∅ 0)
      ∗ ((OW (F := F) c (dAG c 0 1) ∗ atPos ER (barCell c) 1 ∅ 0 ∗ bigSep (Finset.univ.erase c) (fun d => barPay (F := F) c d)) -∗ TE m K c)) := by
    have hb : ∀ k ∈ Finset.Ico 1 16, iprop(records m K ∗ D1 (F := F) c k ∗ barPay (F := F) c (pr c k)) ⊢ B0r (F := F) c 0 k := by
      intro k _
      unfold D1 barPay B0r xfT
      rw [if_pos (by decide)]
      iintro ⟨#Hr, ⟨F, C, P, Hp, Hs⟩, Hx, Ho, R1⟩
      isplitl [F]; · iexact F
      isplitl [C]; · iexact C
      isplitl [P]; · iexact P
      isplitl [R1]
      · isplitr; · iapply (open_cell m K 0 c (kd k)) $$ Hr
        isplitl [R1]; · iexact R1
        isplitr; · iapply (open_cell m K 2 c (kd k)) $$ Hr
        iapply (open_cell m K 3 c (pr c k)) $$ Hr
      isplitl [Hp]; · iexact Hp
      isplitl [Hs]; · iexact Hs
      isplitl [Ho] <;> iassumption
    have hB : iprop(records m K ∗ bigSep (Finset.Ico 1 16) (D1 (F := F) c) ∗ bigSep (Finset.univ.erase c) (fun d => barPay (F := F) c d))
        ⊢ bigSep (Finset.Ico 1 16) (B0r (F := F) c 0) := by
      rw [peers_places (c := c) (fun d => barPay (F := F) c d), ← bigSep_sep']
      have h₁ : iprop(records m K ∗ bigSep (Finset.Ico 1 16) fun k => iprop(D1 (F := F) c k ∗ barPay (F := F) c (pr c k)))
          ⊢ iprop(bigSep (Finset.Ico 1 16) (fun k => records m K) ∗ bigSep (Finset.Ico 1 16) fun k => iprop(D1 (F := F) c k ∗ barPay (F := F) c (pr c k))) := by
        iintro ⟨#Hr, H⟩
        isplitr
        · iapply (bigSep_intro_persistent (S := Finset.Ico 1 16) (R := records m K) (Φ := fun _ => records m K) fun _ _ => BIBase.Entails.rfl) $$ Hr
        · iexact H
      refine h₁.trans ?_
      rw [← bigSep_sep']
      exact bigSep_mono hb
    unfold TD TE base inert inert0
    rw [dBar_end]
    iintro ⟨⟨#Hr, #Hl, Ho, Hw, Hx, Hs, Hp, Hpos⟩, ⟨Hc, Hloc⟩, -, Hd⟩
    isplitl [Ho Hc Hp]
    · isplitr; · iexact Hr
      isplitr; · iexact Hl
      isplitl [Ho]; · iexact Ho
      isplitl [Hc] <;> iassumption
    iintro ⟨Ho, Hp, Hpay⟩
    isplitr [Hloc Hd Hpay]
    · isplitr; · iexact Hr
      isplitr; · iexact Hl
      isplitl [Ho]; · iexact Ho
      isplitl [Hw]; · iexact Hw
      isplitl [Hx]; · iexact Hx
      isplitl [Hs]; · iexact Hs
      isplitl [Hp] <;> iassumption
    isplitl [Hloc]; · iexact Hloc
    iapply hB
    isplitr; · iexact Hr
    isplitl [Hd] <;> iassumption
  refine hsplit.trans ?_
  unfold OW
  iintro ⟨⟨#Hr, #Hl, ⟨%W, Ho⟩, Hc, Hp⟩, Hb⟩
  iapply (wp_wait_rest_token 𝒱₀ ER (Rd (F := F) m) (c : Thread nD τ) none (sm := .reg barS) (k' := 15)
      (κ := K (c, none)) (wpE_semWait_eq 𝒱₀ (c : Thread nD τ) none Set.univ) (Set.mem_univ _) 1 (O := tallyL (dAG c 0 1)) (W := W) (R := 0) (m := 0) (T := ∅)
      (expect_bar m c).symm) $$ [Ho Hc Hp]
  · isplitr; · iapply (inv_bar m K c) $$ Hr
    isplitl [Hc]; · iexact Hc
    isplitl [Ho]; · iexact Ho
    isplitr; · iapply (mayWait_abv c (.reg barS) (by decide) (abv_dAG c 1 (by decide) (by decide))) $$ Hl
    iexact Hp
  iintro ⟨Ho, Hp, -, Hpay⟩
  iapply h
  iapply Hb
  isplitl [Ho]
  · iexists _; iexact Ho
  isplitl [Hp]; · iexact Hp
  rw [← rest_bar m c]
  iexact Hpay

/-- The input is loaded, -/
theorem e_x {inb hl k} {Q : α → sProp 𝕄} (h : TE m K c ⊢ WP c (k (x0 m c)) Q) :
    TE m K c ⊢ WP c (.op (.load xM (Rect.unit (s := S64x512) ![0, 0] S64x512.size inb).toLoadRect hl) k) Q := by
  refine load_whole (xM_whole fullShare (x0 m c)) ?_ h
  unfold TE base inert
  iintro ⟨⟨Hr, Hl, Ho, Hw, Hx, Hi⟩, HM⟩
  isplitl [Hx]; · iexact Hx
  iintro Hx
  isplitr [HM]
  · isplitl [Hr]; · iexact Hr
    isplitl [Hl]; · iexact Hl
    isplitl [Ho]; · iexact Ho
    isplitl [Hw]; · iexact Hw
    isplitl [Hx] <;> iassumption
  · iexact HM
theorem e_ms {inb hl k} {Q : α → sProp 𝕄} (h : ∀ X, TE m K c ⊢ WP c (k X) Q) :
    TE m K c ⊢ WP c (.op (.load msM (Rect.unit (s := S64x512) ![0, 0] S64x512.size inb).toLoadRect hl) k) Q :=
  load_ms_any (part_s m K c) h

/-- Dealing one's slice out to the peers' bundles. -/
theorem deal (B : ℕ → sProp 𝕄) (X : Blk F) {A : ℕ → sProp 𝕄} {C : ℕ → sProp 𝕄} (hC : C = fun k => iprop(B k ∗ ms c k X)) :
    iprop(own c msM X ∗ bigSep (Finset.Ico 1 16) B) ⊢ iprop(ms c 0 X ∗ It A C 1) := by
  subst hC
  rw [ms_shares]
  have h := It_start A (fun k => iprop(B k ∗ ms c k X))
  rw [bigSep_sep'] at h
  iintro ⟨⟨H0, Hm⟩, HB⟩
  isplitl [H0]; · iexact H0
  iapply h
  isplitl [HB] <;> iassumption

/-- and stored as one's slice. -/
theorem e_st {inb hx hm w} (hw : w = x0 m c) {Q : α → sProp 𝕄} (h : T1 m K c 0 1 ⊢ WP c (f ⟨⟩) Q) :
    TE m K c ⊢ WP c (.op (.store msM (Rect.unit (s := S64x512) ![0, 0] S64x512.size inb) w Finset.univ hx hm) f) Q := by
  refine store_ms hw ?_ h
  unfold TE T1 loc
  iintro ⟨Hb, ⟨Hx, Hp, Ho, Hs⟩, HM⟩
  isplitl [Hs]; · iexact Hs
  iintro Hs
  ihave HD := (deal (c := c) (B0r (F := F) c 0) (x0 m c) (A := B1 (F := F) c 0) (C := B0 m c 0) rfl) $$ [Hs HM]
  · isplitl [Hs] <;> iassumption
  icases HD with ⟨Hs, HI⟩
  isplitl [Hb]; · iexact Hb
  isplitr [HI]
  · isplitl [Hx]; · iexact Hx
    isplitl [Hp]; · iexact Hp
    isplitl [Ho]; · iexact Ho
    iexact Hs
  · iexact HI

/-! ## The gather copies -/

/-- A row block's copy credits what a whole slice's does. -/
theorem credit_xf (s : Dev nD) : (row xfM s).view.dmaCredit = N :=
  View.dmaCredit_closed (row xfM s).view S64x512 rfl _ rfl N rfl
theorem credit_out (s : Dev nD) : (row outM s).view.dmaCredit = N :=
  View.dmaCredit_closed (row outM s).view S64x512 rfl _ rfl N rfl
theorem credit_slot (s : Dev nD) : (slot s).view.dmaCredit = N :=
  View.dmaCredit_closed (slot s).view S64x512 rfl _ rfl N rfl

theorem g_send {l k : ℕ} (hl : l < 3) (h1 : 1 ≤ k) (h2 : k < 16) {d : Dev nD} (hd : d = pr c k) {dst : Memref sig .tc .vmem S64x512 .f32} (hdst : dst = row xfM c)
    {sS sR : DmaSem sig} (hS : sS = smN 0 (kd k)) (hR : sR = smN 1 c) {hsc hsrc hdw hsem} {Q : α → sProp 𝕄}
    (h : T1 m K c l (k + 1) ⊢ WP c (f ⟨⟩) Q) :
    T1 m K c l k ⊢ WP c (.op (.enqueueDma msM (.remote (Dev.tc d) dst (.dma sS) hsc) (.dma sR) hsrc hdw hsem) f) Q := by
  subst hd hdst
  refine send_landing m K c (jS := 0) (jR := 1) (r := l) (r' := l) (i := 2 + 2 * l) (O := dAG c l k) (O' := dAG c l (k + 1))
    (used_dep c 0 rfl h1 h2) (show l < 4 by omega) (used_arr' c 1 (by decide) h1 h2) (show l < 4 by omega)
    (by rw [dAG_cons c l h2, owe_cons]) (credit_xf c) hS hR ?_ ?_ (it_acc m K c h1 h2 (ag_bundle m c hl)) h
  · show (emp : sProp 𝕄) ⊢ agsPay m c (kd k) l
    unfold agsPay; rw [if_pos hl]
  · show _ ⊢ agPay m (pr c k) c l
    unfold agPay; rw [if_pos hl, gap_pr c h2]
    iintro ⟨⟨Hx, Hs, R⟩, Hm⟩
    isplitl [Hx]; · iexact Hx
    isplitl [Hs]; · iexact Hs
    isplitl [Hm] <;> iassumption

theorem g_ms {l : ℕ} {inb hl k} {Q : α → sProp 𝕄} (h : T1 m K c l 16 ⊢ WP c (k (Xv m l c)) Q) :
    T1 m K c l 16 ⊢ WP c (.op (.load msM (Rect.unit (s := S64x512) ![0, 0] S64x512.size inb).toLoadRect hl) k) Q :=
  load_ms (part_s m K c) h
theorem g_x {l : ℕ} {off : Fin 2 → ℕ} (ho : off = ![64 * c.val, 0]) {inb hl k} {Q : α → sProp 𝕄} (h : ∀ X, T1 m K c l 16 ⊢ WP c (k X) Q) :
    T1 m K c l 16 ⊢ WP c (.op (.load xfM (Rect.unit (s := S1024x512) off S64x512.size inb).toLoadRect hl) k) Q :=
  load_row_any ho (part_x m K c) h

theorem g_st {l : ℕ} (hl : l < 3) {off : Fin 2 → ℕ} (ho : off = ![64 * c.val, 0]) {inb hx hm w} (hw : w = Xv m l c) {Q : α → sProp 𝕄}
    (h : T1x m K c l (anyP (F := F) c) ⊢ WP c (f ⟨⟩) Q) :
    T1 m K c l 16 ⊢ WP c (.op (.store xfM (Rect.unit (s := S1024x512) off S64x512.size inb) w Finset.univ hx hm) f) Q := by
  refine store_row ho hw ?_ h
  unfold T1 T1x
  rw [dAG_end c hl]
  refine BIBase.Entails.trans ?_ (part_x m K c)
  have := It_end (B1 (F := F) c l) (B0 m c l)
  iintro ⟨Hb, Hl, HI⟩
  isplitl [Hb]; · iexact Hb
  isplitl [Hl]; · iexact Hl
  iapply this
  iexact HI

/-! ## One's own part -/

theorem x_x {l : ℕ} {p : sProp 𝕄} {off : Fin 2 → ℕ} (ho : off = ![64 * c.val, 0]) {inb hl k} {Q : α → sProp 𝕄} (h : T1x m K c l p ⊢ WP c (k (Xv m l c)) Q) :
    T1x m K c l p ⊢ WP c (.op (.load xfM (Rect.unit (s := S1024x512) off S64x512.size inb).toLoadRect hl) k) Q :=
  load_row ho (part_x m K c) h
theorem x_wi {l : ℕ} (hl : l < 3) {p : sProp 𝕄} {M : Memref sig .tc .vmem S512x1024 .f32} (hM : M = wiM l) {inb hload k} {Q : α → sProp 𝕄}
    (h : T1x m K c l p ⊢ WP c (k (Wi m l c)) Q) :
    T1x m K c l p ⊢ WP c (.op (.load M (Rect.unit (s := S512x1024) ![0, 0] S512x1024.size inb).toLoadRect hload) k) Q := by
  subst hM; exact load_whole (wiM_whole l _ _) (part_wi m K c hl) h
theorem x_wo {l : ℕ} (hl : l < 3) {p : sProp 𝕄} {M : Memref sig .tc .vmem S1024x512 .f32} (hM : M = woM l) {inb hload k} {Q : α → sProp 𝕄}
    (h : T1x m K c l p ⊢ WP c (k (Wo m l c)) Q) :
    T1x m K c l p ⊢ WP c (.op (.load M (Rect.unit (s := S1024x512) ![0, 0] S1024x512.size inb).toLoadRect hload) k) Q := by
  subst hM; exact load_whole (woM_whole l _ _) (part_wo m K c hl) h
theorem x_p {l : ℕ} {off : Fin 2 → ℕ} (ho : off = ![64 * c.val, 0]) {inb hl k} {Q : α → sProp 𝕄} (h : ∀ X, T1x m K c l (anyP (F := F) c) ⊢ WP c (k X) Q) :
    T1x m K c l (anyP (F := F) c) ⊢ WP c (.op (.load ptM (Rect.unit (s := S1024x512) off S64x512.size inb).toLoadRect hl) k) Q :=
  load_row_any ho (part_p m K c) h
theorem x_st {l : ℕ} {off : Fin 2 → ℕ} (ho : off = ![64 * c.val, 0]) {inb hx hm w} (hw : w = Pv m l c c) {Q : α → sProp 𝕄}
    (h : T2 m K c l 1 ⊢ WP c (f ⟨⟩) Q) :
    T1x m K c l (anyP (F := F) c) ⊢ WP c (.op (.store ptM (Rect.unit (s := S1024x512) off S64x512.size inb) w Finset.univ hx hm) f) Q := by
  refine store_row ho hw ?_ h
  unfold T1x T2 loc2
  refine BIBase.Entails.trans ?_ (part_p m K c)
  have := It_start (B2 (F := F) c l) (B1 (F := F) c l)
  iintro ⟨Hb, Hl, HI⟩
  isplitl [Hb]; · iexact Hb
  isplitl [Hl]; · iexact Hl
  iapply this
  iexact HI

/-! ## The peers' parts -/

theorem a_wait {l k : ℕ} (hl : l < 3) (h1 : 1 ≤ k) (h2 : k < 16) {sm : DmaSem sig} (hsm : sm = smN 1 (pr c k))
    {sp sp' : Space} {s s' : Shape} {e e' : EltTy} {src : Memref sig .tc sp' s' e'} {dst : Memref sig .tc sp s e} (hN : dst.view.dmaCredit = N) {hsrc hdst} {Q : α → sProp 𝕄}
    (h : T2w m K c l k (anyO (F := F) c (row ptM (pr c k))) ⊢ WP c (f ⟨⟩) Q) :
    T2 m K c l k ⊢ WP c (.op (.waitDma2 sm src dst hsrc hdst) f) Q :=
  wait_cell m K c (j := 1) (r := l) (i := 2 + 2 * l) (O := dRS c l k) (used_arr c 1 (by decide) h1 h2) (show l < 4 by omega) (by omega)
    (abv_dRS c k hl (by omega)) hsm hN (mid_acc m K c h1 h2 (agw_bundle m c hl)) h

section Mid

variable {l k : ℕ}

theorem mid_x {P : sProp 𝕄} : B1w m c l k P ⊢ iprop(own c (row xfM (pr c k)) (Xv m l (pr c k)) ∗ (own c (row xfM (pr c k)) (Xv m l (pr c k)) -∗ B1w m c l k P)) := by
  unfold B1w
  iintro ⟨H1, H2, H3, H4, H5, H6, Hx, H7⟩
  isplitl [Hx]; · iexact Hx
  iintro Hx
  isplitl [H1]; · iexact H1
  isplitl [H2]; · iexact H2
  isplitl [H3]; · iexact H3
  isplitl [H4]; · iexact H4
  isplitl [H5]; · iexact H5
  isplitl [H6]; · iexact H6
  isplitl [Hx] <;> iassumption
theorem mid_p {P P' : sProp 𝕄} : B1w m c l k P ⊢ iprop(P ∗ (P' -∗ B1w m c l k P')) := by
  unfold B1w
  iintro ⟨H1, H2, H3, H4, H5, H7⟩
  isplitl [H5]; · iexact H5
  iintro H5
  isplitl [H1]; · iexact H1
  isplitl [H2]; · iexact H2
  isplitl [H3]; · iexact H3
  isplitl [H4]; · iexact H4
  isplitl [H5] <;> iassumption
/-- … under what is left of the state. -/
theorem mid_m {M N' B C' R : sProp 𝕄} (h : M ⊢ iprop(B ∗ (C' -∗ N'))) : iprop(M ∗ R) ⊢ iprop(B ∗ (C' -∗ iprop(N' ∗ R))) := by
  iintro ⟨HM, HR⟩
  ihave H := h $$ HM
  icases H with ⟨HB, HN⟩
  isplitl [HB]; · iexact HB
  iintro HC
  isplitr [HR]
  · iapply HN
    iexact HC
  · iexact HR

theorem a_x {P : sProp 𝕄} {off : Fin 2 → ℕ} (ho : off = ![64 * (pr c k).val, 0]) {inb hl ko} {Q : α → sProp 𝕄} (h : T2w m K c l k P ⊢ WP c (ko (Xv m l (pr c k))) Q) :
    T2w m K c l k P ⊢ WP c (.op (.load xfM (Rect.unit (s := S1024x512) off S64x512.size inb).toLoadRect hl) ko) Q :=
  load_row ho (part_m m K c (mid_m (mid_x m))) h
theorem a_wi (hl : l < 3) {P : sProp 𝕄} {M : Memref sig .tc .vmem S512x1024 .f32} (hM : M = wiM l) {inb hload ko}
    {Q : α → sProp 𝕄} (h : T2w m K c l k P ⊢ WP c (ko (Wi m l c)) Q) :
    T2w m K c l k P ⊢ WP c (.op (.load M (Rect.unit (s := S512x1024) ![0, 0] S512x1024.size inb).toLoadRect hload) ko) Q := by
  subst hM; exact load_whole (wiM_whole l _ _) (part_wi m K c hl) h
theorem a_wo (hl : l < 3) {P : sProp 𝕄} {M : Memref sig .tc .vmem S1024x512 .f32} (hM : M = woM l) {inb hload ko}
    {Q : α → sProp 𝕄} (h : T2w m K c l k P ⊢ WP c (ko (Wo m l c)) Q) :
    T2w m K c l k P ⊢ WP c (.op (.load M (Rect.unit (s := S1024x512) ![0, 0] S1024x512.size inb).toLoadRect hload) ko) Q := by
  subst hM; exact load_whole (woM_whole l _ _) (part_wo m K c hl) h
theorem a_p {off : Fin 2 → ℕ} (ho : off = ![64 * (pr c k).val, 0]) {inb hl ko} {Q : α → sProp 𝕄} (h : ∀ X, T2w m K c l k (anyO (F := F) c (row ptM (pr c k))) ⊢ WP c (ko X) Q) :
    T2w m K c l k (anyO (F := F) c (row ptM (pr c k))) ⊢ WP c (.op (.load ptM (Rect.unit (s := S1024x512) off S64x512.size inb).toLoadRect hl) ko) Q :=
  load_row_any ho (part_m m K c (mid_m (mid_p m))) h
theorem a_st {off : Fin 2 → ℕ} (ho : off = ![64 * (pr c k).val, 0]) {inb hx hm w} (hw : w = Pv m l c (pr c k))
    {Q : α → sProp 𝕄} (h : T2w m K c l k (own c (row ptM (pr c k)) (Pv m l c (pr c k))) ⊢ WP c (f ⟨⟩) Q) :
    T2w m K c l k (anyO (F := F) c (row ptM (pr c k))) ⊢ WP c (.op (.store ptM (Rect.unit (s := S1024x512) off S64x512.size inb) w Finset.univ hx hm) f) Q :=
  store_row ho hw (part_m m K c (mid_m (mid_p m))) h

theorem a_send (hl : l < 3) (h1 : 1 ≤ k) (h2 : k < 16) {d : Dev nD} (hd : d = pr c k) {src dst : Memref sig .tc .vmem S64x512 .f32}
    (hsr : src = row ptM (pr c k)) (hdst : dst = slot c)
    {sS sR : DmaSem sig} (hS : sS = smN 2 (kd k)) (hR : sR = smN 3 c) {hsc hsrc hdw hsem}
    {Q : α → sProp 𝕄} (h : T2 m K c l (k + 1) ⊢ WP c (f ⟨⟩) Q) :
    T2w m K c l k (own c (row ptM (pr c k)) (Pv m l c (pr c k)))
      ⊢ WP c (.op (.enqueueDma src (.remote (Dev.tc d) dst (.dma sS) hsc) (.dma sR) hsrc hdw hsem) f) Q := by
  subst hd hdst hsr
  refine send_departing m K c (jS := 2) (jR := 3) (r := l) (r' := l) (i := 3 + 2 * l) (O := dRS c l k) (O' := dRS c l (k + 1))
    (used_dep c 2 rfl h1 h2) (show l < 3 by omega) (used_arr' c 3 (by decide) h1 h2) (show l < 3 by omega)
    (by rw [dRS_cons c l h2, owe_cons]) (credit_slot c) hS hR ?_ ?_ (mid_end m K c (rs_bundle m c hl)) h
  · show _ ⊢ anyO (F := F) c (row ptM (pr c (kd k).val))
    rw [kd_lt h2]; exact any_of_own c _ _
  · show _ ⊢ rsPay m (pr c k) c l
    unfold rsPay rsFr
    iintro ⟨Hs, Hm, Hx, R⟩
    isplitl [Hs]; · iexact Hs
    isplitl [Hm]; · iexact Hm
    isplitl [Hx] <;> iassumption

end Mid

/-! ## Adding the parts up -/

theorem r_start {l : ℕ} (hl : l < 3) {off : Fin 2 → ℕ} (ho : off = ![64 * c.val, 0]) {inb hload k} {Q : α → sProp 𝕄} (h : T3 m K c l 1 ⊢ WP c (k (Pv m l c c)) Q) :
    T2 m K c l 16 ⊢ WP c (.op (.load ptM (Rect.unit (s := S1024x512) off S64x512.size inb).toLoadRect hload) k) Q := by
  have hT : T2 m K c l 16 ⊢ T3 m K c l 1 := by
    unfold T2 T3
    rw [dRS_end c hl]
    have := (It_end (B2 (F := F) c l) (B1 (F := F) c l)).trans (It_start (B3 m c l (Xv m l c)) (B2 (F := F) c l))
    iintro ⟨Hb, Hl, HI⟩
    isplitl [Hb]; · iexact Hb
    isplitl [Hl]; · iexact Hl
    iapply this
    iexact HI
  exact hT.trans (load_row ho (part_p m K c) h)

theorem r_wait {l k : ℕ} (hl : l < 3) (h1 : 1 ≤ k) (h2 : k < 16) {sm : DmaSem sig} (hsm : sm = smN 3 (pr c k))
    {sp sp' : Space} {s s' : Shape} {e e' : EltTy} {src : Memref sig .tc sp' s' e'} {dst : Memref sig .tc sp s e} (hN : dst.view.dmaCredit = N) {hsrc hdst} {Q : α → sProp 𝕄}
    (h : T3 m K c l (k + 1) ⊢ WP c (f ⟨⟩) Q) :
    T3 m K c l k ⊢ WP c (.op (.waitDma2 sm src dst hsrc hdst) f) Q :=
  wait_cell m K c (j := 3) (r := l) (i := 3 + 2 * l) (O := dAG c (l + 1) 1) (used_arr c 3 (by decide) h1 h2) (show l < 3 by omega) (by omega)
    (abv_dAG c 1 (by omega) (by omega)) hsm hN (it_acc m K c h1 h2 (rsw_bundle m c hl h2)) h

theorem r_ld {l k : ℕ} (h1 : 1 ≤ k) {off : Fin 3 → ℕ} (ho : off = ![(pr c k).val, 0, 0]) {inb hload ko} {Q : α → sProp 𝕄}
    (h : T3 m K c l (k + 1) ⊢ WP c (ko (unsq (Pv m l (pr c k) c))) Q) :
    T3 m K c l (k + 1) ⊢ WP c (.op (.load rbM (Rect.unit (s := S16x64x512) off S1x64x512.size inb).toLoadRect hload) ko) Q := by
  refine load_slot ho ?_ h
  have hB : B3 m c l (Xv m l c) k ⊢ iprop(own c (slot (pr c k)) (Pv m l (pr c k) c) ∗ (own c (slot (pr c k)) (Pv m l (pr c k) c) -∗ B3 m c l (Xv m l c) k)) := by
    unfold B3 B3r
    iintro ⟨⟨H1, H2, H3, H4, H5, H6, Hs⟩, Hm⟩
    isplitl [Hs]; · iexact Hs
    iintro Hs
    isplitr [Hm]
    · isplitl [H1]; · iexact H1
      isplitl [H2]; · iexact H2
      isplitl [H3]; · iexact H3
      isplitl [H4]; · iexact H4
      isplitl [H5]; · iexact H5
      isplitl [H6] <;> iassumption
    · iexact Hm
  refine part_m m K c ?_
  unfold It
  rw [bigSep_Ico_succ_top h1]
  iintro ⟨⟨HB, HA⟩, HR⟩
  ihave H := hB $$ HB
  icases H with ⟨Hs, Hb⟩
  isplitl [Hs]; · iexact Hs
  iintro Hs
  isplitr [HR]
  · isplitr [HA]
    · iapply Hb
      iexact Hs
    · iexact HA
  · iexact HR

theorem r_ms {l : ℕ} {inb hl k} {Q : α → sProp 𝕄} (h : T3 m K c l 16 ⊢ WP c (k (Xv m l c)) Q) :
    T3 m K c l 16 ⊢ WP c (.op (.load msM (Rect.unit (s := S64x512) ![0, 0] S64x512.size inb).toLoadRect hl) k) Q :=
  load_ms (part_s m K c) h

theorem r_st {l : ℕ} {inb hx hm w} (hw : w = Xv m (l + 1) c) {Q : α → sProp 𝕄} (h : T4 m K c l 1 ⊢ WP c (f ⟨⟩) Q) :
    T3 m K c l 16 ⊢ WP c (.op (.store msM (Rect.unit (s := S64x512) ![0, 0] S64x512.size inb) w Finset.univ hx hm) f) Q := by
  refine store_ms hw ?_ h
  have hend := It_end (B3 m c l (Xv m l c)) (B2 (F := F) c l)
  have hB : bigSep (Finset.Ico 1 16) (B3 m c l (Xv m l c)) ⊢ iprop(bigSep (Finset.Ico 1 16) (B3r m c l) ∗ bigSep (Finset.Ico 1 16) fun k => ms c k (Xv m l c)) := by
    rw [← bigSep_sep']; exact bigSep_mono fun k _ => (show B3 m c l (Xv m l c) k ⊢ B3 m c l (Xv m l c) k from BIBase.Entails.rfl)
  have hsh := ms_shares c (Xv m l c)
  have hj : iprop(ms c 0 (Xv m l c) ∗ bigSep (Finset.Ico 1 16) fun k => ms c k (Xv m l c)) ⊢ anyO (F := F) c msM := by
    rw [← hsh]; exact any_of_own c _ _
  unfold T3 T4 loc2 loc
  iintro ⟨Hb, ⟨Hx, Hp, Ho, Hs⟩, HI⟩
  ihave HI' := hend $$ HI
  ihave HI'' := hB $$ HI'
  icases HI'' with ⟨HB, Hm⟩
  isplitl [Hs Hm]
  · iapply hj
    isplitl [Hs] <;> iassumption
  iintro Hs
  ihave HD := (deal (c := c) (B3r m c l) (Xv m (l + 1) c) (A := B4 m c l) (C := B3 m c l (Xv m (l + 1) c)) rfl) $$ [Hs HB]
  · isplitl [Hs] <;> iassumption
  icases HD with ⟨Hs, HI⟩
  isplitl [Hb]; · iexact Hb
  isplitr [HI]
  · isplitl [Hx]; · iapply (any_of_own c (row xfM c) (Xv m l c)) $$ Hx
    isplitl [Hp]; · iapply (any_of_own c (row ptM c) (Pv m l c c)) $$ Hp
    isplitl [Ho] <;> iassumption
  · iexact HI

/-! ## The departures -/

theorem d_wait {l k : ℕ} (hl : l < 3) (h1 : 1 ≤ k) (h2 : k < 16) {sm : DmaSem sig} (hsm : sm = smN 0 (kd k))
    {sp sp' : Space} {s s' : Shape} {e e' : EltTy} {src : Memref sig .tc sp' s' e'} {dst : Memref sig .tc sp s e} (hN : dst.view.dmaCredit = N) {hsrc hdst} {Q : α → sProp 𝕄}
    (h : T4 m K c l (k + 1) ⊢ WP c (f ⟨⟩) Q) :
    T4 m K c l k ⊢ WP c (.op (.waitDma2 sm src dst hsrc hdst) f) Q :=
  wait_cell m K c (j := 0) (r := l) (i := 0) (O := dAG c (l + 1) 1) (used_dep c 0 rfl h1 h2) (show l < 4 by omega) (by omega)
    (abv_dAG c 1 (by omega) (by omega)) hsm hN (it_acc m K c h1 h2 (agd_bundle m c)) h

theorem T4_T5 (l : ℕ) : T4 m K c l 16 ⊢ T5 m K c l 1 := by
  unfold T4 T5
  have := (It_end (B4 m c l) (B3 m c l (Xv m (l + 1) c))).trans (It_start (B0 m c (l + 1)) (B4 m c l))
  iintro ⟨Hb, Hl, HI⟩
  isplitl [Hb]; · iexact Hb
  isplitl [Hl]; · iexact Hl
  iapply this
  iexact HI

theorem s_wait {l k : ℕ} (hl : l < 3) (h1 : 1 ≤ k) (h2 : k < 16) {sm : DmaSem sig} (hsm : sm = smN 2 (kd k))
    {sp sp' : Space} {s s' : Shape} {e e' : EltTy} {src : Memref sig .tc sp' s' e'} {dst : Memref sig .tc sp s e} (hN : dst.view.dmaCredit = N) {hsrc hdst} {Q : α → sProp 𝕄}
    (h : T5 m K c l (k + 1) ⊢ WP c (f ⟨⟩) Q) :
    T5 m K c l k ⊢ WP c (.op (.waitDma2 sm src dst hsrc hdst) f) Q :=
  wait_cell m K c (j := 2) (r := l) (i := 0) (O := dAG c (l + 1) 1) (used_dep c 2 rfl h1 h2) (show l < 3 by omega) (by omega)
    (abv_dAG c 1 (by omega) (by omega)) hsm hN (it_acc m K c h1 h2 (rsd_bundle m c h2)) h

/-- The next layer. -/
theorem T5_T1 (l : ℕ) (hl : l < 2) : T5 m K c l 16 ⊢ T1 m K c (l + 1) 1 := by
  unfold T5 T1
  have := (It_end (B0 m c (l + 1)) (B4 m c l)).trans (It_start (B1 (F := F) c (l + 1)) (B0 m c (l + 1)))
  iintro ⟨Hb, Hl, HI⟩
  isplitl [Hb]; · iexact Hb
  isplitl [Hl]; · iexact Hl
  iapply this
  iexact HI

/-! ## The last gather -/

theorem T5_T6 : T5 m K c 2 16 ⊢ T6 m K c 1 := by
  unfold T5 T6
  have := (It_end (B0 m c 3) (B4 m c 2)).trans (It_start (C1 (F := F) c) (B0 m c 3))
  iintro ⟨Hb, Hl, HI⟩
  isplitl [Hb]; · iexact Hb
  isplitl [Hl]; · iexact Hl
  iapply this
  iexact HI

theorem f_send {k : ℕ} (h1 : 1 ≤ k) (h2 : k < 16) {d : Dev nD} (hd : d = pr c k) {dst : Memref sig .tc .vmem S64x512 .f32} (hdst : dst = row outM c)
    {sS sR : DmaSem sig} (hS : sS = smN 0 (kd k)) (hR : sR = smN 1 c) {hsc hsrc hdw hsem} {Q : α → sProp 𝕄}
    (h : T6 m K c (k + 1) ⊢ WP c (f ⟨⟩) Q) :
    T6 m K c k ⊢ WP c (.op (.enqueueDma msM (.remote (Dev.tc d) dst (.dma sS) hsc) (.dma sR) hsrc hdw hsem) f) Q := by
  subst hd hdst
  refine send_departing m K c (jS := 0) (jR := 1) (r := 3) (r' := 3) (i := 2 + 2 * 3) (O := dAG c 3 k) (O' := dAG c 3 (k + 1))
    (used_dep c 0 rfl h1 h2) (show 3 < 4 by omega) (used_arr' c 1 (by decide) h1 h2) (show 3 < 4 by omega)
    (by rw [dAG_cons c 3 h2, owe_cons]) (credit_out c) hS hR ?_ ?_ (it_acc m K c h1 h2 (fg_bundle m c)) h
  · show _ ⊢ agsPay m c (kd k) 3
    unfold agsPay; rw [if_neg (by decide), kd_lt h2]
  · show _ ⊢ agPay m (pr c k) c 3
    unfold agPay; rw [if_neg (by decide)]
    iintro ⟨H, -⟩; iexact H

theorem f_ms {inb hl k} {Q : α → sProp 𝕄} (h : T6 m K c 16 ⊢ WP c (k (Xv m 3 c)) Q) :
    T6 m K c 16 ⊢ WP c (.op (.load msM (Rect.unit (s := S64x512) ![0, 0] S64x512.size inb).toLoadRect hl) k) Q :=
  load_ms (part_s m K c) h
theorem f_o {off : Fin 2 → ℕ} (ho : off = ![64 * c.val, 0]) {inb hl k} {Q : α → sProp 𝕄} (h : ∀ X, T6 m K c 16 ⊢ WP c (k X) Q) :
    T6 m K c 16 ⊢ WP c (.op (.load outM (Rect.unit (s := S1024x512) off S64x512.size inb).toLoadRect hl) k) Q :=
  load_row_any ho (part_o m K c) h
theorem f_st {off : Fin 2 → ℕ} (ho : off = ![64 * c.val, 0]) {inb hx hm w} (hw : w = Xv m 3 c) {Q : α → sProp 𝕄}
    (h : T7 m K c 1 ⊢ WP c (f ⟨⟩) Q) :
    T6 m K c 16 ⊢ WP c (.op (.store outM (Rect.unit (s := S1024x512) off S64x512.size inb) w Finset.univ hx hm) f) Q := by
  refine store_row ho hw ?_ h
  unfold T6 T7 loc7
  rw [dAG_last]
  refine BIBase.Entails.trans ?_ (part_o m K c)
  have := (It_end (C1 (F := F) c) (B0 m c 3)).trans (It_start (C2 m c) (C1 (F := F) c))
  iintro ⟨Hb, Hl, HI⟩
  isplitl [Hb]; · iexact Hb
  isplitl [Hl]; · iexact Hl
  iapply this
  iexact HI

theorem f_wait {k : ℕ} (h1 : 1 ≤ k) (h2 : k < 16) {sm : DmaSem sig} (hsm : sm = smN 1 (pr c k))
    {sp sp' : Space} {s s' : Shape} {e e' : EltTy} {src : Memref sig .tc sp' s' e'} {dst : Memref sig .tc sp s e} (hN : dst.view.dmaCredit = N) {hsrc hdst} {Q : α → sProp 𝕄}
    (h : T7 m K c (k + 1) ⊢ WP c (f ⟨⟩) Q) :
    T7 m K c k ⊢ WP c (.op (.waitDma2 sm src dst hsrc hdst) f) Q :=
  wait_cell m K c (j := 1) (r := 3) (i := 8) (O := []) (used_arr c 1 (by decide) h1 h2) (show 3 < 4 by omega) (by omega)
    (fun x hx => absurd hx List.not_mem_nil) hsm hN (it_acc m K c h1 h2 (fgw_bundle m c)) h

theorem T7_T8 : T7 m K c 16 ⊢ T8 m K c 1 := by
  unfold T7 T8
  have := (It_end (C2 m c) (C1 (F := F) c)).trans (It_start (C3 m c) (C2 m c))
  iintro ⟨Hb, Hl, HI⟩
  isplitl [Hb]; · iexact Hb
  isplitl [Hl]; · iexact Hl
  iapply this
  iexact HI

theorem f_dep {k : ℕ} (h1 : 1 ≤ k) (h2 : k < 16) {sm : DmaSem sig} (hsm : sm = smN 0 (kd k))
    {sp sp' : Space} {s s' : Shape} {e e' : EltTy} {src : Memref sig .tc sp' s' e'} {dst : Memref sig .tc sp s e} (hN : dst.view.dmaCredit = N) {hsrc hdst} {Q : α → sProp 𝕄}
    (h : T8 m K c (k + 1) ⊢ WP c (f ⟨⟩) Q) :
    T8 m K c k ⊢ WP c (.op (.waitDma2 sm src dst hsrc hdst) f) Q :=
  wait_cell m K c (j := 0) (r := 3) (i := 0) (O := []) (used_dep c 0 rfl h1 h2) (show 3 < 4 by omega) (by omega)
    (fun x hx => absurd hx List.not_mem_nil) hsm hN (it_acc m K c h1 h2 (fgd_bundle m c h2)) h

end Moves

/-! ## The program's semaphores -/

theorem sem0 {x : Dev nD} {off : Fin 1 → ℕ} (ho : off = ![x.val]) {inb} :
    ((cc0_scratch4.slice (Rect.unit (s := S16) off S1.size inb)).squeeze S_ squeezes_S1_S_).sem = smN 0 x :=
  (sem_slice 8 hcc0_scratch4 (dev_lt x) ho inb (by have := dev_lt x; omega)).trans (Fin.ext rfl)
theorem sem1 {x : Dev nD} {off : Fin 1 → ℕ} (ho : off = ![x.val]) {inb} :
    ((cc0_scratch5.slice (Rect.unit (s := S16) off S1.size inb)).squeeze S_ squeezes_S1_S_).sem = smN 1 x :=
  (sem_slice 24 hcc0_scratch5 (dev_lt x) ho inb (by have := dev_lt x; omega)).trans (Fin.ext rfl)
theorem sem2 {x : Dev nD} {off : Fin 1 → ℕ} (ho : off = ![x.val]) {inb} :
    ((cc0_scratch6.slice (Rect.unit (s := S16) off S1.size inb)).squeeze S_ squeezes_S1_S_).sem = smN 2 x :=
  (sem_slice 40 hcc0_scratch6 (dev_lt x) ho inb (by have := dev_lt x; omega)).trans (Fin.ext rfl)
theorem sem3 {x : Dev nD} {off : Fin 1 → ℕ} (ho : off = ![x.val]) {inb} :
    ((cc0_scratch7.slice (Rect.unit (s := S16) off S1.size inb)).squeeze S_ squeezes_S1_S_).sem = smN 3 x :=
  (sem_slice 56 hcc0_scratch7 (dev_lt x) ho inb (by have := dev_lt x; omega)).trans (Fin.ext rfl)

end Cert.MlpProof

end
-- ==== Proof.Share.lean ====
/-
# Wholes and their parts

A buffer of 1024 rows is its sixteen row blocks, the scatter buffer its sixteen slots; what is indexed by the devices is what
is indexed by one of them and its fifteen peers; a device's cells are its barrier cell and its four families.
-/
module

public import proofs.«01_k».proof.Proof.Moves

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F]

local notation "𝕄" => MT nD τ sig ℕ (Elt F) ℕ UU ℕ

variable (m : (ℓ : Loc nD τ sig) → Buf (Elt F) ℓ)

variable (K : Dev nD × CI → ℕ) (c : Dev nD)

/-! ## Devices and places -/

theorem pr_zero (k : ℕ) : pr 0 k = kd k := Fin.ext (by rw [pr_val, kd_val]; show (0 + k) % 16 = _; rw [Nat.zero_add])

/-- The devices are one of them and its peers by place; -/
theorem places (Φ : Dev nD → sProp 𝕄) : bigSep Finset.univ Φ = iprop(Φ c ∗ bigSep (Finset.Ico 1 16) fun k => Φ (pr c k)) := by
  rw [bigSep_univ_at Φ c, peers_places]
/-- the indices of a family are 0 and the others. -/
theorem places0 (Φ : Dev nD → sProp 𝕄) : bigSep Finset.univ Φ = iprop(Φ 0 ∗ bigSep (Finset.Ico 1 16) fun k => Φ (kd k)) := by
  rw [places 0 Φ]; simp only [pr_zero]

/-! ## Row blocks and slots -/

theorem rows_disj (s t : Dev nD) (h : s ≠ t) : Disjoint (rowR s).set (rowR t).set := by
  refine Finset.disjoint_left.mpr fun i hs ht => h (Fin.ext ?_)
  rw [← Rect.map_emb_univ] at hs ht
  obtain ⟨x, -, rfl⟩ := Finset.mem_map.mp hs
  obtain ⟨y, -, e⟩ := Finset.mem_map.mp ht
  have e0 : 64 * t.val + 1 * (y 0).val = 64 * s.val + 1 * (x 0).val := congrArg (fun i : S1024x512.Idx => (i 0).val) e
  have hx : (x 0).val < 64 := (x 0).isLt
  have hy : (y 0).val < 64 := (y 0).isLt
  omega
theorem slots_disj (s t : Dev nD) (h : s ≠ t) : Disjoint (slotR s).set (slotR t).set := by
  refine Finset.disjoint_left.mpr fun i hs ht => h (Fin.ext ?_)
  rw [← Rect.map_emb_univ] at hs ht
  obtain ⟨x, -, rfl⟩ := Finset.mem_map.mp hs
  obtain ⟨y, -, e⟩ := Finset.mem_map.mp ht
  have e0 : t.val + 1 * (y 0).val = s.val + 1 * (x 0).val := congrArg (fun i : S16x64x512.Idx => (i 0).val) e
  have hx : (x 0).val < 1 := (x 0).isLt
  have hy : (y 0).val < 1 := (y 0).isLt
  omega

/-- The row block a row lies in, and the row's place in it. -/
def rowOf (i : S1024x512.Idx) : Dev nD := ⟨(i 0).val / 64, by have h : (i 0).val < 1024 := (i 0).isLt; show _ < 16; omega⟩
def inRow (i : S1024x512.Idx) : S64x512.Idx
  | ⟨0, _⟩ => ⟨(i 0).val % 64, Nat.mod_lt _ (by decide)⟩
  | ⟨1, _⟩ => ⟨(i 1).val, (i 1).isLt⟩

theorem row_emb (i : S1024x512.Idx) : (rowR (rowOf i)).emb (inRow i) = i := by
  funext a
  refine Fin.ext ?_
  match a with
  | ⟨0, _⟩ =>
    show 64 * ((i 0).val / 64) + 1 * ((i 0).val % 64) = (i 0).val
    omega
  | ⟨1, _⟩ =>
    show 0 + 1 * (i 1).val = (i 1).val
    omega
theorem rowOf_emb (s : Dev nD) (j : S64x512.Idx) : rowOf ((rowR s).emb j) = s := by
  refine Fin.ext ?_
  show (64 * s.val + 1 * (j 0).val) / 64 = s.val
  have h : (j 0).val < 64 := (j 0).isLt
  omega
theorem inRow_emb (s : Dev nD) (j : S64x512.Idx) : inRow ((rowR s).emb j) = j := by
  funext a
  refine Fin.ext ?_
  match a with
  | ⟨0, _⟩ =>
    show (64 * s.val + 1 * (j 0).val) % 64 = (j 0).val
    have h : (j 0).val < 64 := (j 0).isLt
    omega
  | ⟨1, _⟩ =>
    show 0 + 1 * (j 1).val = (j 1).val
    omega

theorem rows_cover : (Finset.univ : Finset (Dev nD)).biUnion (fun s => (rowR s).set) = Finset.univ :=
  Finset.eq_univ_of_forall fun i => Finset.mem_biUnion.mpr ⟨rowOf i, Finset.mem_univ _, by
    rw [← Rect.map_emb_univ]; exact Finset.mem_map.mpr ⟨inRow i, Finset.mem_univ _, row_emb i⟩⟩
theorem slots_cover : (Finset.univ : Finset (Dev nD)).biUnion (fun s => (slotR s).set) = Finset.univ :=
  Finset.eq_univ_of_forall fun i => Finset.mem_biUnion.mpr ⟨⟨(i 0).val, (i 0).isLt⟩, Finset.mem_univ _, by
    rw [← Rect.map_emb_univ]; exact Finset.mem_map.mpr ⟨(fun a => match a with
      | ⟨0, _⟩ => ⟨0, Nat.one_pos⟩
      | ⟨1, _⟩ => ⟨(i 1).val, (i 1).isLt⟩
      | ⟨2, _⟩ => ⟨(i 2).val, (i 2).isLt⟩ : S1x64x512.Idx), Finset.mem_univ _, by
        funext a
        refine Fin.ext ?_
        match a with
        | ⟨0, _⟩ => show (i 0).val + 1 * 0 = (i 0).val; omega
        | ⟨1, _⟩ => show 0 + 1 * (i 1).val = (i 1).val; omega
        | ⟨2, _⟩ => show 0 + 1 * (i 2).val = (i 2).val; omega⟩⟩

/-- A buffer of row blocks `X`. -/
def glue (X : Dev nD → Blk F) : S1024x512.Idx → Elt F .f32 := fun i => X (rowOf i) (inRow i)

/-- A buffer's row blocks, -/
theorem rows_split (b : Memref sig .tc .vmem S1024x512 .f32) : anyO (F := F) c b ⊢ bigSep Finset.univ fun s => anyO (F := F) c (row b s) := by
  have h (X : S1024x512.Idx → Elt F .f32) : own (F := F) c b X ⊢ bigSep Finset.univ fun s => iprop(∃ X, own (F := F) c (row b s) X) :=
    (owns_rects (c : Thread nD τ) b fullShare rowR (fun _ _ => rfl) rows_disj rows_cover X).trans (bigSep_mono fun s _ =>
      show own (F := F) c (row b s) (fun j => X ((rowR s).emb j)) ⊢ iprop(∃ X, own (F := F) c (row b s) X) by iintro H; iexists _; iexact H)
  unfold anyO
  iintro ⟨%X, H⟩
  iapply (h X) $$ H
/-- and back, at known contents -/
theorem rows_glue (b : Memref sig .tc .vmem S1024x512 .f32) (X : Dev nD → Blk F) :
    (bigSep Finset.univ fun s => own c (row b s) (X s)) ⊢ (own c b (glue X) : sProp 𝕄) := by
  have e (s : Dev nD) : (fun j => glue X ((rowR s).emb j)) = X s := by
    funext j; unfold glue; rw [rowOf_emb, inRow_emb]
  refine BIBase.Entails.trans ?_ (owns_of_rects (c : Thread nD τ) b fullShare rowR (fun _ _ => rfl) rows_disj rows_cover (glue X))
  exact bigSep_mono fun s _ => Entails.of_eq (congrArg (fun Z => own (F := F) c (row b s) Z) (e s).symm)
/-- or any. -/
theorem rows_join (b : Memref sig .tc .vmem S1024x512 .f32) : (bigSep Finset.univ fun s => anyO (F := F) c (row b s)) ⊢ anyO (F := F) c b := by
  haveI : Nonempty (Blk F) := ⟨fun _ => (Elt.nonempty F .f32).some⟩
  unfold anyO
  iintro H
  ihave HX := (BI.bigSep_exists_pi Finset.univ (fun (s : Dev nD) (X : Blk F) => (own c (row b s) X : sProp 𝕄))) $$ H
  icases HX with ⟨%X, H⟩
  iexists (glue X)
  iapply (rows_glue c b X) $$ H

/-- The scatter buffer's slots, -/
theorem slots_split : anyO (F := F) c rbM ⊢ bigSep Finset.univ fun s => anyO (F := F) c (slot s) := by
  have hs (s : Dev nD) (Y : S1x64x512.Idx → Elt F .f32) : (own c (slot3 s) Y : sProp 𝕄) ⊢ anyO (F := F) c (slot s) := by
    have e : unsq (F := F) (shapeCast S64x512 Y squeezes_S1x64x512_S64x512.numel_eq) = Y := by
      funext i; show Y (Shape.reshapeEquiv _ ((Shape.reshapeEquiv _).symm i)) = Y i; rw [Equiv.apply_symm_apply]
    have h : (own (F := F) c (slot3 s) Y : sProp 𝕄) ⊢ own (F := F) c (slot s) (shapeCast S64x512 Y squeezes_S1x64x512_S64x512.numel_eq) :=
      Entails.of_eq ((congrArg (fun Z => own (F := F) c (slot3 s) Z) e).symm.trans (own_slot c s fullShare _).symm)
    unfold anyO
    iintro H
    iexists (shapeCast S64x512 Y squeezes_S1x64x512_S64x512.numel_eq)
    iapply h $$ H
  have h (X : S16x64x512.Idx → Elt F .f32) : own (F := F) c rbM X ⊢ bigSep Finset.univ fun s => anyO (F := F) c (slot s) :=
    (owns_rects (c : Thread nD τ) rbM fullShare slotR (fun _ _ => rfl) slots_disj slots_cover X).trans (bigSep_mono fun s _ => hs s _)
  iintro H
  iapply (show anyO (F := F) c rbM ⊢ bigSep Finset.univ fun s => anyO (F := F) c (slot s) by
    unfold anyO
    iintro ⟨%X, H⟩
    iapply (h X) $$ H) $$ H
/-- A buffer of slots `X`. -/
def stack (X : Dev nD → Blk F) : S16x64x512.Idx → Elt F .f32 := fun i => unsq (X ⟨(i 0).val, (i 0).isLt⟩) (fun a => match a with
      | ⟨0, _⟩ => ⟨0, Nat.one_pos⟩
      | ⟨1, _⟩ => ⟨(i 1).val, (i 1).isLt⟩
      | ⟨2, _⟩ => ⟨(i 2).val, (i 2).isLt⟩)
/-- and back. -/
theorem slots_join : (bigSep Finset.univ fun s => anyO (F := F) c (slot s)) ⊢ anyO (F := F) c rbM := by
  haveI : Nonempty (Blk F) := ⟨fun _ => (Elt.nonempty F .f32).some⟩
  unfold anyO
  iintro H
  ihave HX := (BI.bigSep_exists_pi Finset.univ (fun (s : Dev nD) (X : Blk F) => (own c (slot s) X : sProp 𝕄))) $$ H
  icases HX with ⟨%X, H⟩
  have e (s : Dev nD) : (own c (slot s) (X s) : sProp 𝕄)
      = own c (slot3 s) (fun j => stack X ((slotR s).emb j)) := by
    refine (own_slot c s fullShare (X s)).trans ?_
    congr 1
    funext j
    have h0 : (j 0).val < 1 := (j 0).isLt
    have es : (⟨((slotR s).emb j 0).val, ((slotR s).emb j 0).isLt⟩ : Dev nD) = s := Fin.ext (by show s.val + 1 * (j 0).val = s.val; omega)
    show _ = unsq (X (⟨((slotR s).emb j 0).val, ((slotR s).emb j 0).isLt⟩ : Dev nD)) _
    rw [es]
    congr 1
    funext a
    refine Fin.ext ?_
    match a with
    | ⟨0, _⟩ => show (j 0).val = 0; omega
    | ⟨1, _⟩ => show (j 1).val = 0 + 1 * (j 1).val; omega
    | ⟨2, _⟩ => show (j 2).val = 0 + 1 * (j 2).val; omega
  iexists _
  iapply (owns_of_rects (c : Thread nD τ) rbM fullShare slotR (fun _ _ => rfl) slots_disj slots_cover (stack X))
  have h : (bigSep Finset.univ fun s => (own c (slot s) (X s) : sProp 𝕄)) ⊢ _ := Entails.of_eq (bigSep_congr fun s _ => e s)
  iapply h $$ H

/-! ## A device's cells -/

/-- The barrier cell and the four families. -/
theorem cells_split (Φ : CI → sProp 𝕄) : bigSep Finset.univ Φ = iprop(Φ none
    ∗ (bigSep Finset.univ fun x => Φ (some (0, x))) ∗ (bigSep Finset.univ fun x => Φ (some (1, x)))
    ∗ (bigSep Finset.univ fun x => Φ (some (2, x))) ∗ (bigSep Finset.univ fun x => Φ (some (3, x)))) := by
  have comm (A B : sProp 𝕄) : iprop(A ∗ B) = iprop(B ∗ A) := BI.equiv_iff.mp ⟨sep_comm, sep_comm⟩
  rw [bigSep_univ_equiv (Equiv.optionEquivSumPUnit.{0} (Fin 4 × Dev nD)).symm Φ, bigSep_univ_sum]
  have h1 : (bigSep (Finset.univ : Finset PUnit.{1}) fun b => Φ ((Equiv.optionEquivSumPUnit.{0} (Fin 4 × Dev nD)).symm (.inr b))) = Φ none := by
    rw [show (Finset.univ : Finset PUnit.{1}) = {PUnit.unit} from rfl, bigSep_singleton]; rfl
  rw [h1, bigSep_univ_prod, bigSep_univ_eq_bigSepL [0, 1, 2, 3] (by decide) (by decide)]
  show iprop(iprop((bigSep Finset.univ fun x => Φ (some (0, x))) ∗ (bigSep Finset.univ fun x => Φ (some (1, x)))
    ∗ (bigSep Finset.univ fun x => Φ (some (2, x))) ∗ (bigSep Finset.univ fun x => Φ (some (3, x)))) ∗ Φ none) = _
  exact comm _ _

/-- … each family by the peer it concerns. -/
theorem cells_places (Φ : CI → sProp 𝕄) : bigSep Finset.univ Φ = iprop(Φ none
    ∗ (Φ (some (0, 0)) ∗ bigSep (Finset.Ico 1 16) fun k => Φ (some (0, kd k)))
    ∗ (Φ (some (1, c)) ∗ bigSep (Finset.Ico 1 16) fun k => Φ (some (1, pr c k)))
    ∗ (Φ (some (2, 0)) ∗ bigSep (Finset.Ico 1 16) fun k => Φ (some (2, kd k)))
    ∗ (Φ (some (3, c)) ∗ bigSep (Finset.Ico 1 16) fun k => Φ (some (3, pr c k)))) := by
  rw [cells_split, places0 (fun x => Φ (some (0, x))), places c (fun x => Φ (some (1, x))), places0 (fun x => Φ (some (2, x))),
    places c (fun x => Φ (some (3, x)))]

end Cert.MlpProof

end
-- ==== Proof.Credits.lean ====
/-
# The launch's credits

What a device owes at the launch, by peer, and what it may therefore take: each peer's barrier unit, four gather copies and three
scatter copies.
-/
module

public import proofs.«01_k».proof.Proof.Share

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F]

local notation "𝕄" => MT nD τ sig ℕ (Elt F) ℕ UU ℕ

variable (m : (ℓ : Loc nD τ sig) → Buf (Elt F) ℓ)
variable (c : Dev nD)

/-! ## Sums -/

theorem tallyL_seg (f : ℕ → Pay nD τ sig) : tallyL (seg f 1) = ∑ k ∈ Finset.Ico 1 16, (f k).tally := by
  have h (l : List ℕ) : tallyL (l.map f) = (l.map fun k => (f k).tally).sum := by
    induction l with
    | nil => rfl
    | cons a l ih => rw [List.map_cons, List.map_cons, List.sum_cons, tallyL, ih]
  unfold seg
  rw [h]
  rfl

/-- What device `s` owes device `c`. -/
def due (c s : Dev nD) : CellTallies nD τ sig ℕ :=
  tallyAt (barCell c) 1 1 + (∑ l ∈ Finset.Ico 0 4, tallyAt (cell 1 c s) (2 + 2 * l) N + ∑ l ∈ Finset.Ico 0 3, tallyAt (cell 3 c s) (3 + 2 * l) N)

/-- What a device owes at the launch, -/
abbrev O₀ (c : Dev nD) : CellTallies nD τ sig ℕ := tallyL (dBar c 1)

theorem O₀_eq : O₀ c = ∑ k ∈ Finset.Ico 1 16, due (pr c k) c := by
  show tallyL (seg (payBar c) 1 ++ (seg (payAG c 0) 1 ++ ((seg (payRS c 0) 1 ++ seg (payAG c 1) 1) ++ ((seg (payRS c 1) 1 ++ seg (payAG c 2) 1)
    ++ ((seg (payRS c 2) 1 ++ seg (payAG c 3) 1) ++ []))))) = _
  simp only [TalkSites.tallyL_append, tallyL_seg, due, ← Finset.range_eq_Ico, Finset.sum_range_succ, Finset.sum_range_zero, Finset.sum_add_distrib, tallyL,
    payBar, payAG, payRS, TalkSites.Pay.tally, Finset.sum_const_zero, mul_zero, mul_one, Nat.reduceMul, Nat.reduceAdd, zero_add, add_zero]
  abel

/-- and what it is owed. -/
def tk (c : Dev nD) : CellTallies nD τ sig ℕ := ∑ k ∈ Finset.Ico 1 16, due c (pr c k)

theorem peers_sum (Φ : Dev nD → CellTallies nD τ sig ℕ) : ∑ k ∈ Finset.Ico 1 16, Φ (pr c k) = ∑ d ∈ Finset.univ.erase c, Φ d := by
  have hinj : Set.InjOn (pr c) (Finset.Ico 1 16 : Finset ℕ) := fun a ha b hb h => by
    have ha' := Finset.mem_Ico.mp (Finset.mem_coe.mp ha); have hb' := Finset.mem_Ico.mp (Finset.mem_coe.mp hb)
    have := congrArg Fin.val h; rw [pr_val, pr_val] at this; have := dev_lt c; omega
  have himg : (Finset.Ico 1 16).image (pr c) = Finset.univ.erase c := by revert c; decide
  rw [← himg, Finset.sum_image hinj]

theorem dues_sum : (∑ c, O₀ c) = ∑ c, tk c := by
  simp only [O₀_eq, tk]
  rw [Finset.sum_congr rfl fun c _ => peers_sum c fun d => due d c, Finset.sum_congr rfl fun c _ => peers_sum c (due c)]
  exact Finset.sum_comm' fun x y => by simp [ne_comm]

theorem tk_at (d : Dev nD) (g : GSem nD τ sig) (h : tk d g ≠ 0) : g.1 = (d.tc : Thread nD τ) := by
  by_contra hn
  refine h ?_
  have hc (sm : SemLoc sig) (i n : ℕ) : (tallyAt ((d : Thread nD τ), sm) i n : CellTallies nD τ sig ℕ) g = 0 :=
    tallyAt_ne_cell (fun e => hn (congrArg Prod.fst e)) i n
  unfold tk due
  rw [Finset.sum_apply]
  refine Finset.sum_eq_zero fun k _ => ?_
  rw [Pi.add_apply, Pi.add_apply, Finset.sum_apply, Finset.sum_apply, hc, Finset.sum_eq_zero fun l _ => hc _ _ _, Finset.sum_eq_zero fun l _ => hc _ _ _, add_zero, add_zero]

/-! ## Credits -/

theorem cred_plus (a b : CellTallies nD τ sig ℕ) : (cred (a + b) : sProp 𝕄) = iprop(cred a ∗ cred b) :=
  BI.Entails.antisymm (cred_add _ _).1 (cred_add _ _).2

theorem cred_over (s : Finset ℕ) (f : ℕ → CellTallies nD τ sig ℕ) : (cred (∑ x ∈ s, f x) : sProp 𝕄) = bigSep s fun x => cred (f x) := by
  induction s using Finset.induction_on with
  | empty => rw [Finset.sum_empty, cred_zero, bigSep_empty]; rfl
  | insert x s hx ih => rw [Finset.sum_insert hx, bigSep_insert hx, cred_plus, ih]; rfl

theorem units (g : GSem nD τ sig) (i n : ℕ) : ∑ _k ∈ Finset.range n, tallyAt g i 1 = (tallyAt g i n : CellTallies nD τ sig ℕ) := by
  induction n with
  | zero => rw [Finset.sum_range_zero, tallyAt_zero]
  | succ n ih => rw [Finset.sum_range_succ, ih, tallyAt_add]

theorem creds : (Pipeline.launchCred O₀ c : sProp 𝕄) = iprop(cred (tallyAt (barCell c) 1 15)
    ∗ bigSep (Finset.Ico 1 16) fun k => iprop(fcr (F := F) (cell 1 c (pr c k)) 2 4 0 ∗ fcr (F := F) (cell 3 c (pr c k)) 3 3 0)) := by
  rw [Pipeline.launchCred_of_sum O₀ tk dues_sum tk_at]
  unfold tk due fcr
  rw [Finset.sum_add_distrib, cred_plus, cred_over _ fun k => _ + _]
  congr 1
  · rw [← units _ _ 15, Finset.sum_const, Finset.sum_const, Nat.card_Ico, Finset.card_range]
  · refine bigSep_congr fun k _ => ?_
    rw [cred_plus, cred_over, cred_over]

end Cert.MlpProof

end
-- ==== Proof.Opening.lean ====
/-
# The launch's ghost state

Every cell is opened with the schedule's invariant; the duty tokens are minted for the device that pays with them.
-/
module

public import proofs.«01_k».proof.Proof.Credits

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F]

local notation "𝕄" => MT nD τ sig ℕ (Elt F) ℕ UU ℕ

variable (m : (ℓ : Loc nD τ sig) → Buf (Elt F) ℓ)
variable (c : Dev nD)

/-! ## The cells -/

theorem smN_inj {j j' : Fin 4} {x x' : Dev nD} (h : smN j x = smN j' x') : j = j' ∧ x = x' := by
  have e : 8 + 16 * j.val + x.val = 8 + 16 * j'.val + x'.val := congrArg Fin.val h
  have := dev_lt x; have := dev_lt x'
  exact ⟨Fin.ext (by omega), Fin.ext (by omega)⟩

theorem csm_inj : Function.Injective csm := by
  rintro (_ | ⟨j, x⟩) (_ | ⟨j', x'⟩) h
  · rfl
  · exact nomatch h
  · exact nomatch h
  · obtain ⟨rfl, rfl⟩ := smN_inj (SemLoc.dma.inj h); rfl

theorem kc_inj : Function.Injective kc := by
  rintro ⟨c, i⟩ ⟨c', i'⟩ h
  have h1 : c = c' := congrArg (fun g : GSem nD τ sig => g.1.1) h
  have h2 : i = i' := csm_inj (congrArg Prod.snd h)
  rw [h1, h2]

def theCells : Finset (GSem nD τ sig) := Finset.univ.map ⟨kc, kc_inj⟩

/-- The copy cells are the kernel's own semaphores. -/
def osem (p : Fin 4 × Dev nD) : SemLoc sig := csm (some p)

theorem ownSemFacts : Pipeline.OwnSemFacts cfg0.spec osem where
  isScoped := by rintro ⟨j, x⟩; revert j x; decide
  inj p q h := Option.some.inj (csm_inj h)
  disj := by rintro ⟨j, x⟩; revert j x; decide

/-! ## The tokens -/

/-- A token: who pays, the other device or the index of the cell, the barrier cell or a family, the round. -/
abbrev TI : Type := Dev nD × (Dev nD × (Option (Fin 4) × Fin 4))
def tok : TI → GSem nD τ sig × ℕ × Dev nD
  | (c, x, none, r) => (barCell x, r.val, c)
  | (c, x, some j, r) => (if j.val % 2 = 0 then cell j c x else cell j x c, r.val, 0)

theorem cell_inj {j j' : Fin 4} {c c' x x' : Dev nD} (h : cell j c x = cell j' c' x') : c = c' ∧ j = j' ∧ x = x' :=
  ⟨congrArg (fun g : GSem nD τ sig => g.1.1) h, smN_inj (SemLoc.dma.inj (congrArg Prod.snd h))⟩

theorem tok_inj : Function.Injective tok := by
  rintro ⟨c, x, _ | j, r⟩ ⟨c', x', _ | j', r'⟩ h
  · have h1 : barCell x = barCell x' := congrArg Prod.fst h
    have h2 : r.val = r'.val := congrArg (fun y => y.2.1) h
    have h3 : c = c' := congrArg (fun y => y.2.2) h
    have h4 : x = x' := congrArg (fun g : GSem nD τ sig => g.1.1) h1
    rw [h3, h4, Fin.ext h2]
  · have h1 : barCell x = if j'.val % 2 = 0 then cell j' c' x' else cell j' x' c' := congrArg Prod.fst h
    split at h1 <;> exact nomatch congrArg Prod.snd h1
  · have h1 : (if j.val % 2 = 0 then cell j c x else cell j x c) = barCell x' := congrArg Prod.fst h
    split at h1 <;> exact nomatch congrArg Prod.snd h1
  · have h1 : (if j.val % 2 = 0 then cell j c x else cell j x c) = if j'.val % 2 = 0 then cell j' c' x' else cell j' x' c' := congrArg Prod.fst h
    have h2 : r.val = r'.val := congrArg (fun y => y.2.1) h
    have hj : j = j' := by
      split at h1 <;> split at h1 <;> exact (cell_inj h1).2.1
    subst hj
    have hcx : c = c' ∧ x = x' := by
      split at h1
      · exact ⟨(cell_inj h1).1, (cell_inj h1).2.2⟩
      · exact ⟨(cell_inj h1).2.2, (cell_inj h1).1⟩
    rw [hcx.1, hcx.2, Fin.ext h2]

def theToks : Finset (GSem nD τ sig × ℕ × Dev nD) := Finset.univ.map ⟨tok, tok_inj⟩

/-- What device `c` pays with. -/
def toks : sProp 𝕄 := bigSep Finset.univ fun y => dutyTok ER (tok (c, y)).1 (tok (c, y)).2.1 (tok (c, y)).2.2

/-- The tokens by peer. -/
abbrev tokK (k : ℕ) : sProp 𝕄 :=
  iprop(fut (F := F) (cell 1 (pr c k) c) 4 0 ∗ fut (F := F) (cell 0 c (kd k)) 4 0 ∗ fut (F := F) (cell 3 (pr c k) c) 3 0 ∗ fut (F := F) (cell 2 c (kd k)) 3 0)

theorem fut4 (g : GSem nD τ sig) : (bigSep Finset.univ fun r : Fin 4 => (dutyTok ER g r.val (0 : Dev nD) : sProp 𝕄)) ⊢ fut (F := F) g 4 0 := by
  rw [bigSep_univ_eq_bigSepL [0, 1, 2, 3] (by decide) (by decide), fut_next g (by decide), fut_next g (by decide), fut_next g (by decide), fut_next g (by decide)]
  show iprop(dutyTok ER g 0 (0 : Dev nD) ∗ dutyTok ER g 1 (0 : Dev nD) ∗ dutyTok ER g 2 (0 : Dev nD) ∗ dutyTok ER g 3 (0 : Dev nD))
    ⊢ (iprop(dutyTok ER g 0 (0 : Dev nD) ∗ dutyTok ER g 1 (0 : Dev nD) ∗ dutyTok ER g 2 (0 : Dev nD) ∗ dutyTok ER g 3 (0 : Dev nD) ∗ fut (F := F) g 4 4) : sProp 𝕄)
  unfold fut
  rw [Finset.Ico_self, bigSep_empty]
  iintro ⟨H0, H1, H2, H3⟩
  isplitl [H0]; · iexact H0
  isplitl [H1]; · iexact H1
  isplitl [H2]; · iexact H2
  isplitl [H3]; · iexact H3
  iempintro
theorem fut3 (g : GSem nD τ sig) : (bigSep Finset.univ fun r : Fin 4 => (dutyTok ER g r.val (0 : Dev nD) : sProp 𝕄)) ⊢ fut (F := F) g 3 0 := by
  refine (fut4 g).trans ?_
  unfold fut
  rw [bigSep_Ico_succ_top (show 0 ≤ 3 by omega)]
  iintro ⟨-, H⟩
  iexact H

/-- One payer's tokens about one device. -/
def tokX (x : Dev nD) : sProp 𝕄 :=
  iprop(dutyTok ER (barCell x) 0 c ∗ fut (F := F) (cell 0 c x) 4 0 ∗ fut (F := F) (cell 1 x c) 4 0 ∗ fut (F := F) (cell 2 c x) 3 0 ∗ fut (F := F) (cell 3 x c) 3 0)

theorem toks_by : toks (F := F) c ⊢ bigSep Finset.univ fun x => tokX (F := F) c x := by
  have h (x : Dev nD) : (bigSep Finset.univ fun y : Option (Fin 4) × Fin 4 => (dutyTok ER (tok (c, x, y)).1 (tok (c, x, y)).2.1 (tok (c, x, y)).2.2 : sProp 𝕄))
      ⊢ tokX (F := F) c x := by
    rw [bigSep_univ_prod, bigSep_univ_eq_bigSepL [none, some 0, some 1, some 2, some 3] (by decide) (by decide)]
    unfold tokX
    show iprop((bigSep Finset.univ fun r : Fin 4 => (dutyTok ER (barCell x) r.val c : sProp 𝕄))
      ∗ (bigSep Finset.univ fun r : Fin 4 => (dutyTok ER (cell 0 c x) r.val (0 : Dev nD) : sProp 𝕄))
      ∗ (bigSep Finset.univ fun r : Fin 4 => (dutyTok ER (cell 1 x c) r.val (0 : Dev nD) : sProp 𝕄))
      ∗ (bigSep Finset.univ fun r : Fin 4 => (dutyTok ER (cell 2 c x) r.val (0 : Dev nD) : sProp 𝕄))
      ∗ (bigSep Finset.univ fun r : Fin 4 => (dutyTok ER (cell 3 x c) r.val (0 : Dev nD) : sProp 𝕄))) ⊢ _
    have hb : (bigSep Finset.univ fun r : Fin 4 => (dutyTok ER (barCell x) r.val c : sProp 𝕄)) ⊢ (dutyTok ER (barCell x) 0 c : sProp 𝕄) :=
      bigSep_elim (Finset.mem_univ (0 : Fin 4))
    iintro ⟨HB, H0, H1, H2, H3⟩
    isplitl [HB]; · iapply hb $$ HB
    isplitl [H0]; · iapply (fut4 (F := F) (cell 0 c x)) $$ H0
    isplitl [H1]; · iapply (fut4 (F := F) (cell 1 x c)) $$ H1
    isplitl [H2]; · iapply (fut3 (F := F) (cell 2 c x)) $$ H2
    iapply (fut3 (F := F) (cell 3 x c)) $$ H3
  unfold toks
  rw [bigSep_univ_prod]
  exact bigSep_mono fun x _ => h x

theorem toks_split : toks (F := F) c ⊢ bigSep (Finset.Ico 1 16) fun k => iprop(dutyTok ER (barCell (pr c k)) 0 c ∗ tokK (F := F) c k) := by
  refine (toks_by c).trans ?_
  unfold tokX tokK
  rw [bigSep_sep', bigSep_sep', bigSep_sep', bigSep_sep', bigSep_sep', bigSep_sep', bigSep_sep', bigSep_sep',
    places c (fun x => (dutyTok ER (barCell x) 0 c : sProp 𝕄)), places0 (fun x => fut (F := F) (cell 0 c x) 4 0), places c (fun x => fut (F := F) (cell 1 x c) 4 0),
    places0 (fun x => fut (F := F) (cell 2 c x) 3 0), places c (fun x => fut (F := F) (cell 3 x c) 3 0)]
  iintro ⟨⟨-, HB⟩, ⟨-, H0⟩, ⟨-, H1⟩, ⟨-, H2⟩, ⟨-, H3⟩⟩
  isplitl [HB]; · iexact HB
  isplitl [H1]; · iexact H1
  isplitl [H0]; · iexact H0
  isplitl [H3]; · iexact H3
  iexact H2

/-! ## Opening the cells -/

def u₀ : UU := (initOf (Pipeline.cells cfgs cellOf_inj) (Pipeline.launchToks cfgs cellOf_inj), initOf theCells theToks)

/-- A device's positions. -/
abbrev poss (c : Dev nD) : sProp 𝕄 := bigSep Finset.univ fun i : CI => atPos ER (kc (c, i)) 0 ∅ 0

/-- What each device is dealt, -/
def G : sProp 𝕄 :=
  iprop((bigSep Finset.univ fun i : CI => roundState ER (Rd (F := F) m) (kc (c, i)) 0)
    ∗ (bigSep Finset.univ fun i : CI => iprop(atPos ER (kc (c, i)) 0 ∅ 0 ∗ reached ER (kc (c, i)) 0)) ∗ toks (F := F) c)
/-- and what it holds once every cell is open. -/
def G' : sProp 𝕄 := iprop(∃ K, records m K ∗ poss (F := F) c ∗ toks (F := F) c)

theorem fund_all : BI.own (ER (initOf theCells theToks)) ⊢ (|==> bigSep Finset.univ (G (F := F) m) : sProp 𝕄) := by
  have hX (Φ : GSem nD τ sig → sProp 𝕄) : bigSep theCells Φ = bigSep Finset.univ fun c : Dev nD => bigSep Finset.univ fun i : CI => Φ (kc (c, i)) := by
    unfold theCells; rw [bigSep_map, bigSep_univ_prod]; rfl
  have hT : bigSep theToks (fun x => (dutyTok ER x.1 x.2.1 x.2.2 : sProp 𝕄)) = bigSep Finset.univ fun c : Dev nD => toks (F := F) c := by
    unfold theToks; rw [bigSep_map, bigSep_univ_prod]; rfl
  iintro HX
  imod (Rounds.fund ER (Rd (F := F) m) theCells theToks) $$ HX with ⟨Hst, Hr, Hat, Htok⟩
  imodintro
  ihave Hst' := (Entails.of_eq (hX fun g => roundState ER (Rd (F := F) m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem over_cells (Φ : CI → sProp 𝕄) : bigSep Finset.univ Φ = iprop((bigSep Finset.univ fun p : Fin 4 × Dev nD => Φ (some p)) ∗ Φ none) := by
  rw [bigSep_univ_equiv (Equiv.optionEquivSumPUnit.{0} (Fin 4 × Dev nD)).symm Φ, bigSep_univ_sum]
  congr 1
  rw [show (Finset.univ : Finset PUnit.{1}) = {PUnit.unit} from rfl, bigSep_singleton]; rfl

abbrev ownZ (c : Dev nD) : sProp 𝕄 := Pipeline.ownSems0 (Ix := ℕ) (Name := ℕ) (U := UU) (Lvl := ℕ) (Val := Elt F) (τ := τ) osem c

theorem unscoped_eq : (unscopedSems0 c : sProp 𝕄) = semVal (barCell c) 0 := by
  unfold unscopedSems0; rw [bigSep_eq_bigSepL_of_eq [SemLoc.reg barS] (by decide) (by decide)]; rfl

theorem zeros : (bigSep Finset.univ fun i : CI => (semVal (kc (c, i)) 0 : sProp 𝕄)) = iprop(ownZ (F := F) c ∗ unscopedSems0 c) := by
  rw [over_cells, unscoped_eq]; rfl

theorem core_alloc : iprop(ownZ (F := F) c ∗ unscopedSems0 c ∗ G m c)
    ⊢ |={Set.univ}=> iprop((bigSep Finset.univ fun i : CI => iprop(∃ κ : ℕ, cellInv ER (Rd (F := F) m) κ (kc (c, i))))
        ∗ (bigSep Finset.univ fun i : CI => iprop(atPos ER (kc (c, i)) 0 ∅ 0 ∗ reached ER (kc (c, i)) 0)) ∗ toks (F := F) c) := by
  have hz : iprop(ownZ (F := F) c ∗ unscopedSems0 c) ⊢ (bigSep Finset.univ fun i : CI => (semVal (kc (c, i)) 0 : sProp 𝕄)) := Entails.of_eq (zeros c).symm
  have ha : iprop((bigSep Finset.univ fun i : CI => semVal (kc (c, i)) 0) ∗ bigSep Finset.univ fun i : CI => roundState ER (Rd (F := F) m) (kc (c, i)) 0)
      ⊢ (|={Set.univ}=> bigSep Finset.univ fun i : CI => iprop(∃ κ : ℕ, cellInv ER (Rd (F := F) m) κ (kc (c, i))) : sProp 𝕄) := by
    rw [← bigSep_sep']
    exact (bigSep_mono fun i _ => (Rounds.body_intro ER (Rd (F := F) m) (kc (c, i))).trans inv_alloc).trans (bigSep_fupd _ _)
  unfold G
  iintro ⟨Hos, Hus, Hst, Hat, Htok⟩
  ihave Hv := hz $$ [Hos Hus]
  · isplitl [Hos] <;> iassumption
  imod ha $$ [Hv Hst] with Hinv
  · isplitl [Hv] <;> iassumption
  imodintro
  isplitl [Hinv]; · iexact Hinv
  isplitl [Hat]; · iexact Hat
  iexact Htok

theorem share_out (S : Finset (Dev nD)) (R : sProp 𝕄) [BI.Persistent R] (Φ Ψ : Dev nD → sProp 𝕄)
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd (F := F) m) κ (kc (c, i))))
        ∗ (bigSep Finset.univ fun i : CI => iprop(atPos ER (kc (c, i)) 0 ∅ 0 ∗ reached ER (kc (c, i)) 0)) ∗ toks (F := F) c) : sProp 𝕄)
      ⊢ bigSep Finset.univ (G' (F := F) m) := by
  rw [bigSep_sep', bigSep_sep', ← bigSep_univ_prod (fun p : Dev nD × CI => iprop(∃ κ : ℕ, cellInv ER (Rd (F := F) m) κ (kc p))),
    bigSep_congr (s := Finset.univ) (fun (c : Dev nD) _ => bigSep_sep' Finset.univ (fun i : CI => (atPos ER (kc (c, i)) 0 ∅ 0 : sProp 𝕄)) (fun i => reached ER (kc (c, i)) 0)),
    bigSep_sep', ← bigSep_univ_prod (fun p : Dev nD × CI => (reached ER (kc p) 0 : sProp 𝕄))]
  have hg (K : Dev nD × CI → ℕ) (c : Dev nD) : iprop(records m K ∗ (poss (F := F) c ∗ toks (F := F) c)) ⊢ G' m c := by
    unfold G'
    iintro ⟨HR, HP, HT⟩
    iexists K
    isplitl [HR]; · iexact HR
    isplitl [HP] <;> iassumption
  have hr (K : Dev nD × CI → ℕ) : iprop((bigSep Finset.univ fun p => cellInv ER (Rd (F := F) m) (K p) (kc p)) ∗ bigSep Finset.univ fun p => reached ER (kc p) 0)
      ⊢ records m K := Entails.of_eq (by unfold records; rw [bigSep_sep'])
  have hd : iprop((bigSep Finset.univ fun c : Dev nD => poss (F := F) c) ∗ bigSep Finset.univ fun c : Dev nD => toks (F := F) c)
      ⊢ bigSep Finset.univ fun c : Dev nD => iprop(poss (F := F) c ∗ toks (F := F) c) := Entails.of_eq (bigSep_sep' _ _ _).symm
  iintro ⟨HI, ⟨Hat, HR⟩, Htok⟩
  ihave HK := (BI.bigSep_exists_pi Finset.univ (fun (p : Dev nD × CI) (κ : ℕ) => (cellInv ER (Rd (F := F) m) κ (kc p) : sProp 𝕄))) $$ HI
  icases HK with ⟨%K, HI⟩
  iapply (share_out Finset.univ (records m K) _ (G' m) fun c _ => hg K c)
  isplitl [HI HR]
  · iapply (hr K)
    isplitl [HI] <;> iassumption
  · iapply hd
    isplitl [Hat] <;> iassumption

/-- Every cell of every device opened at once. -/
theorem glob : (bigSep Finset.univ fun c => iprop(ownZ (F := F) c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup m))

end Cert.MlpProof

end
-- ==== Proof.Entry.lean ====
/-
# Into the body and out of it

From what the launch deals a device to the first state of its run, and from the last state to what the launch takes back.
-/
module

public import proofs.«01_k».proof.Proof.Opening
public import Idealize.ShloMosaic.Lib.Rounds.Family

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F]

local notation "𝕄" => MT nD τ sig ℕ (Elt F) ℕ UU ℕ

variable (m : (ℓ : Loc nD τ sig) → Buf (Elt F) ℓ)
variable (c : Dev nD)

/-! ## The scratch buffers -/

abbrev rest (c : Dev nD) : sProp 𝕄 := Pipeline.scopedRest (Ix := ℕ) (Name := ℕ) (U := UU) (Lvl := ℕ) (Val := Elt F) spec0 c

theorem rest_eq : rest (F := F) c = iprop(anyO (F := F) c xfM ∗ anyO (F := F) c ptM ∗ anyO (F := F) c rbM ∗ anyO (F := F) c msM) := by
  have h (b : Ref sig .tc) (X : b.ty.Contents (Elt F)) : (owns (c : Thread nD τ) (Memref.whole b) fullShare X : sProp 𝕄) = (((c : Thread nD τ).loc b) ↦{fullShare} X) :=
    owns_whole (c : Thread nD τ) b fullShare X
  unfold rest
  rw [scopedRest0_eq]
  unfold anyO own
  simp only [h]
  rfl

/-! ## In -/

/-- What the launch deals a device. -/
def start : sProp 𝕄 := iprop(G' m c ∗ Pipeline.launchCred O₀ c ∗ levAts (L 9) lv)

theorem parts_in :
    iprop((bigSep (Finset.Ico 1 16) fun k => iprop(dutyTok ER (barCell (pr c k)) 0 c ∗ tokK (F := F) c k))
      ∗ (bigSep (Finset.Ico 1 16) fun k => iprop(fcr (F := F) (cell 1 c (pr c k)) 2 4 0 ∗ fcr (F := F) (cell 3 c (pr c k)) 3 3 0))
      ∗ ((bigSep (Finset.Ico 1 16) fun k => pos (F := F) 0 c (kd k) 0) ∗ (bigSep (Finset.Ico 1 16) fun k => pos (F := F) 1 c (pr c k) 0)
        ∗ (bigSep (Finset.Ico 1 16) fun k => pos (F := F) 2 c (kd k) 0) ∗ (bigSep (Finset.Ico 1 16) fun k => pos (F := F) 3 c (pr c k) 0))
      ∗ (bigSep (Finset.Ico 1 16) fun k => anyO (F := F) c (row xfM (pr c k))) ∗ (bigSep (Finset.Ico 1 16) fun k => anyO (F := F) c (row ptM (pr c k)))
      ∗ (bigSep (Finset.Ico 1 16) fun k => anyO (F := F) c (row outM (pr c k))) ∗ (bigSep (Finset.Ico 1 16) fun k => anyO (F := F) c (slot (pr c k))))
      ⊢ iprop(bigSep (Finset.Ico 1 16) (Dg (F := F) c) ∗ bigSep (Finset.Ico 1 16) (D1 (F := F) c)) := by
  unfold Dg D1
  simp only [bigSep_sep']
  iintro ⟨⟨Tb, Tk⟩, ⟨C1, C3⟩, P, X, Pt, O, S⟩
  isplitl [Tb X O]
  · isplitl [Tb]; · iexact Tb
    isplitl [X] <;> iassumption
  isplitl [Tk]; · iexact Tk
  isplitl [C1 C3]
  · isplitl [C1] <;> iassumption
  isplitl [P]; · iexact P
  isplitl [Pt] <;> iassumption

theorem enter : iprop(start m c ∗ rest (F := F) c ∗ OW (F := F) c (dBar c 1) ∗ (own c xM (x0 m c) ∗ wts m c) ∗ anyO (F := F) c outM)
    ⊢ iprop(∃ K, TD m K c 1) := by
  have hx (b : Memref sig .tc .vmem S1024x512 .f32) : anyO (F := F) c b ⊢ iprop(anyO (F := F) c (row b c) ∗ bigSep (Finset.Ico 1 16) fun k => anyO (F := F) c (row b (pr c k))) :=
    (rows_split c b).trans (Entails.of_eq (places c fun s => anyO (F := F) c (row b s)))
  have hs : anyO (F := F) c rbM ⊢ iprop(anyO (F := F) c (slot c) ∗ bigSep (Finset.Ico 1 16) fun k => anyO (F := F) c (slot (pr c k))) :=
    (slots_split c).trans (Entails.of_eq (places c fun s => anyO (F := F) c (slot s)))
  have hp : poss (F := F) c ⊢ iprop(atPos ER (barCell c) 0 ∅ 0
      ∗ (pos (F := F) 0 c 0 0 ∗ bigSep (Finset.Ico 1 16) fun k => pos (F := F) 0 c (kd k) 0)
      ∗ (pos (F := F) 1 c c 0 ∗ bigSep (Finset.Ico 1 16) fun k => pos (F := F) 1 c (pr c k) 0)
      ∗ (pos (F := F) 2 c 0 0 ∗ bigSep (Finset.Ico 1 16) fun k => pos (F := F) 2 c (kd k) 0)
      ∗ (pos (F := F) 3 c c 0 ∗ bigSep (Finset.Ico 1 16) fun k => pos (F := F) 3 c (pr c k) 0)) :=
    Entails.of_eq (cells_places c fun i => atPos ER (kc (c, i)) 0 ∅ 0)
  unfold start G'
  rw [rest_eq, creds]
  iintro ⟨⟨⟨%K, HR, HP, HT⟩, ⟨Cb, Ck⟩, HL⟩, ⟨Xf, Pt, Rb, Ms⟩, HO, ⟨Hx, Hw⟩, Out⟩
  iexists K
  ihave HX := (hx xfM) $$ Xf; icases HX with ⟨X0, Xk⟩
  ihave HQ := (hx ptM) $$ Pt; icases HQ with ⟨P0, Pk⟩
  ihave HU := (hx outM) $$ Out; icases HU with ⟨O0, Ok⟩
  ihave HS := hs $$ Rb; icases HS with ⟨S0, Sk⟩
  ihave HPs := hp $$ HP; icases HPs with ⟨A, ⟨A0, B0⟩, ⟨A1, B1⟩, ⟨A2, B2⟩, ⟨A3, B3⟩⟩
  ihave HTk := (toks_split c) $$ HT
  ihave HD := (parts_in (F := F) c) $$ [HTk Ck B0 B1 B2 B3 Xk Pk Ok Sk]
  · isplitl [HTk]; · iexact HTk
    isplitl [Ck]; · iexact Ck
    isplitl [B0 B1 B2 B3]
    · isplitl [B0]; · iexact B0
      isplitl [B1]; · iexact B1
      isplitl [B2] <;> iassumption
    isplitl [Xk]; · iexact Xk
    isplitl [Pk]; · iexact Pk
    isplitl [Ok] <;> iassumption
  unfold TD inert0 loc
  isplitl [HR HL HO Hx Hw S0 A A0 A1 A2 A3]
  · isplitl [HR]; · iexact HR
    isplitl [HL]; · iexact HL
    isplitl [HO]; · iexact HO
    isplitl [Hw]; · iexact Hw
    isplitl [Hx]; · iexact Hx
    isplitl [S0]; · iexact S0
    isplitl [A]; · iexact A
    isplitl [A0]; · iexact A0
    isplitl [A1]; · iexact A1
    isplitl [A2] <;> iassumption
  isplitl [Cb X0 P0 O0 Ms]
  · isplitl [Cb]; · iexact Cb
    isplitl [X0]; · iexact X0
    isplitl [P0]; · iexact P0
    isplitl [O0] <;> iassumption
  iexact HD

/-! ## Out -/

/-- The round each cell is left at. -/
def lastR (c : Dev nD) : CI → ℕ
  | none => 1
  | some (j, x) => if used j c x then rds j else 0

theorem pos_out : iprop(atPos ER (barCell c) 1 ∅ 0
      ∗ (pos (F := F) 0 c 0 0 ∗ bigSep (Finset.Ico 1 16) fun k => pos (F := F) 0 c (kd k) 4)
      ∗ (pos (F := F) 1 c c 0 ∗ bigSep (Finset.Ico 1 16) fun k => pos (F := F) 1 c (pr c k) 4)
      ∗ (pos (F := F) 2 c 0 0 ∗ bigSep (Finset.Ico 1 16) fun k => pos (F := F) 2 c (kd k) 3)
      ∗ (pos (F := F) 3 c c 0 ∗ bigSep (Finset.Ico 1 16) fun k => pos (F := F) 3 c (pr c k) 3))
    ⊢ bigSep Finset.univ fun i : CI => (atPos ER (kc (c, i)) (lastR c i) ∅ 0 : sProp 𝕄) := by
  have ev (j : Fin 4) (hj : j.val % 2 = 0) : (bigSep (Finset.Ico 1 16) fun k => (atPos ER (kc (c, some (j, kd k))) (lastR c (some (j, kd k))) ∅ 0 : sProp 𝕄))
      = bigSep (Finset.Ico 1 16) fun k => pos (F := F) j c (kd k) (rds j) := bigSep_congr fun k hk => by
    have hk' := Finset.mem_Ico.mp hk
    have : lastR c (some (j, kd k)) = rds j := if_pos (by unfold used; rw [if_pos hj]; exact kd_ne_zero hk'.1 hk'.2)
    rw [this]; rfl
  have od (j : Fin 4) (hj : j.val % 2 ≠ 0) : (bigSep (Finset.Ico 1 16) fun k => (atPos ER (kc (c, some (j, pr c k))) (lastR c (some (j, pr c k))) ∅ 0 : sProp 𝕄))
      = bigSep (Finset.Ico 1 16) fun k => pos (F := F) j c (pr c k) (rds j) := bigSep_congr fun k hk => by
    have hk' := Finset.mem_Ico.mp hk
    have : lastR c (some (j, pr c k)) = rds j := if_pos (by unfold used; rw [if_neg hj]; exact pr_ne c hk'.1 hk'.2)
    rw [this]; rfl
  have ev0 (j : Fin 4) (hj : j.val % 2 = 0) : lastR c (some (j, 0)) = 0 := if_neg (by unfold used; rw [if_pos hj]; exact fun h => h rfl)
  have od0 (j : Fin 4) (hj : j.val % 2 ≠ 0) : lastR c (some (j, c)) = 0 := if_neg (by unfold used; rw [if_neg hj]; exact fun h => h rfl)
  rw [cells_places c, ev 0 (by decide), ev 2 (by decide), od 1 (by decide), od 3 (by decide), ev0 0 (by decide), ev0 2 (by decide), od0 1 (by decide), od0 3 (by decide)]
  exact BIBase.Entails.rfl

theorem close_all (K : Dev nD × CI → ℕ) : iprop(records m K ∗ bigSep Finset.univ fun i : CI => (atPos ER (kc (c, i)) (lastR c i) ∅ 0 : sProp 𝕄))
    ⊢ |={Set.univ}=> iprop(ownZ (F := F) c ∗ unscopedSems0 c) := by
  have hr : records m K ⊢ bigSep Finset.univ fun i : CI => cellInv ER (Rd (F := F) m) (K (c, i)) (kc (c, i)) :=
    bigSep_intro_persistent (S := Finset.univ) (R := records m K) fun i _ => records_inv m K (c, i)
  have hc : iprop(bigSep Finset.univ fun i : CI => iprop(cellInv ER (Rd (F := F) m) (K (c, i)) (kc (c, i)) ∗ atPos ER (kc (c, i)) (lastR c i) ∅ 0))
      ⊢ (|={Set.univ}=> bigSep Finset.univ fun i : CI => semVal (kc (c, i)) 0 : sProp 𝕄) :=
    cells_close ER (Rd (F := F) m) Finset.univ (fun i : CI => kc (c, i)) (fun i => K (c, i)) (fun _ _ => Set.mem_univ _) (fun _ _ h => h) (lastR c) (by
      rintro (_ | ⟨j, x⟩) _ r hr
      · exact duties_bar_over m c r hr
      · refine duties_over m j c x r fun h => ?_
        rw [show lastR c (some (j, x)) = rds j from if_pos h.1] at hr
        exact absurd h.2 (Nat.not_lt.mpr hr))
  rw [zeros] at hc
  refine BIBase.Entails.trans ?_ hc
  rw [bigSep_sep']
  iintro ⟨HR, HP⟩
  isplitl [HR]; · iapply hr $$ HR
  iexact HP

theorem parts_out : bigSep (Finset.Ico 1 16) (C3 m c)
    ⊢ iprop(((bigSep (Finset.Ico 1 16) fun k => pos (F := F) 0 c (kd k) 4) ∗ (bigSep (Finset.Ico 1 16) fun k => pos (F := F) 1 c (pr c k) 4)
        ∗ (bigSep (Finset.Ico 1 16) fun k => pos (F := F) 2 c (kd k) 3) ∗ (bigSep (Finset.Ico 1 16) fun k => pos (F := F) 3 c (pr c k) 3))
      ∗ (bigSep (Finset.Ico 1 16) fun k => anyO (F := F) c (row ptM (pr c k))) ∗ (bigSep (Finset.Ico 1 16) fun k => anyO (F := F) c (slot (pr c k)))
      ∗ (bigSep (Finset.Ico 1 16) fun k => anyO (F := F) c (row xfM (pr c k))) ∗ (bigSep (Finset.Ico 1 16) fun k => own c (row outM (pr c k)) (Xv m 3 (pr c k)))
      ∗ bigSep (Finset.Ico 1 16) fun k => ms c k (Xv m 3 c)) := by
  unfold C3
  simp only [bigSep_sep']
  exact BIBase.Entails.rfl

theorem leave (K : Dev nD × CI → ℕ) : T8 m K c 16
    ⊢ |={Set.univ}=> iprop((unscopedSems0 c ∗ ownZ (F := F) c ∗ rest (F := F) c) ∗ OW (F := F) c [] ∗ (own c xM (x0 m c) ∗ wts m c) ∗ own c outM (glue (Xv m 3))) := by
  have hx (b : Memref sig .tc .vmem S1024x512 .f32) : iprop(anyO (F := F) c (row b c) ∗ bigSep (Finset.Ico 1 16) fun k => anyO (F := F) c (row b (pr c k))) ⊢ anyO (F := F) c b :=
    (Entails.of_eq (places c fun s => anyO (F := F) c (row b s)).symm).trans (rows_join c b)
  have hs : iprop(anyO (F := F) c (slot c) ∗ bigSep (Finset.Ico 1 16) fun k => anyO (F := F) c (slot (pr c k))) ⊢ anyO (F := F) c rbM :=
    (Entails.of_eq (places c fun s => anyO (F := F) c (slot s)).symm).trans (slots_join c)
  have ho : iprop(own c (row outM c) (Xv m 3 c) ∗ bigSep (Finset.Ico 1 16) fun k => own c (row outM (pr c k)) (Xv m 3 (pr c k))) ⊢ (own c outM (glue (Xv m 3)) : sProp 𝕄) :=
    (Entails.of_eq (places c fun s => own c (row outM s) (Xv m 3 s)).symm).trans (rows_glue c outM (Xv m 3))
  have hm : iprop(ms c 0 (Xv m 3 c) ∗ bigSep (Finset.Ico 1 16) fun k => ms c k (Xv m 3 c)) ⊢ anyO (F := F) c msM := by
    rw [← ms_shares]
    unfold anyO
    iintro H
    iexists _
    iexact H
  unfold T8 base inert loc7 loc
  rw [rest_eq]
  iintro ⟨⟨HR, -, HO, Hw, Hx, S0, A, A0, A1, A2, A3⟩, ⟨X0, P0, O0, M0⟩, HC⟩
  ihave HC1 := (It_end (C3 m c) (C2 m c)) $$ HC
  ihave HC2 := (parts_out m c) $$ HC1
  icases HC2 with ⟨⟨B0, B1, B2, B3⟩, Pk, Sk, Xk, Ok, Mk⟩
  ihave HP := (pos_out (F := F) c) $$ [A A0 A1 A2 A3 B0 B1 B2 B3]
  · isplitl [A]; · iexact A
    isplitl [A0 B0]
    · isplitl [A0] <;> iassumption
    isplitl [A1 B1]
    · isplitl [A1] <;> iassumption
    isplitl [A2 B2]
    · isplitl [A2] <;> iassumption
    isplitl [A3] <;> iassumption
  imod (close_all m c K) $$ [HR HP] with ⟨HZ, HU⟩
  · isplitl [HR] <;> iassumption
  imodintro
  isplitl [HZ HU X0 P0 S0 M0 Xk Pk Sk Mk]
  · isplitl [HU]; · iexact HU
    isplitl [HZ]; · iexact HZ
    isplitl [X0 Xk]
    · iapply (hx xfM)
      isplitl [X0] <;> iassumption
    isplitl [P0 Pk]
    · iapply (hx ptM)
      isplitl [P0] <;> iassumption
    isplitl [S0 Sk]
    · iapply hs
      isplitl [S0] <;> iassumption
    iapply hm
    isplitl [M0] <;> iassumption
  isplitl [HO]; · iexact HO
  isplitl [Hx Hw]
  · isplitl [Hx] <;> iassumption
  iapply ho
  isplitl [O0] <;> iassumption

end Cert.MlpProof

end
-- ==== Proof.Chain.lean ====
/-
# The run of one device

The body of the kernel, window by window and operation by operation: from the state before the first barrier signal to the state
after the last wait.
-/
module

public import proofs.«01_k».proof.Proof.Moves
public import Idealize.ShloMosaic.Lib.Pipeline.Value

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.SiteBlocks (L lv)

variable {F : FTy → Type} [FloatOps F]

local notation "𝕄" => MT nD τ sig ℕ (Elt F) ℕ UU ℕ

variable (m : (ℓ : Loc nD τ sig) → Buf (Elt F) ℓ)

variable (K : Dev nD × CI → ℕ) (c : Dev nD) {α : Type}

/-! ## The program's devices and offsets by the peer they name -/

section Offsets

variable {c}

theorem off1 : k0_off1 c = ![c.val] := k0_off1_eq c
theorem off2 : k0_off2 c = ![64 * c.val, 0] := k0_off2_eq c
theorem off3 : k0_off3 c = ![64 * c.val, 0] := k0_off3_eq c
theorem off4_0 : k0_off4 c (BitVec.ofNat 32 0) = ![64 * c.val, 0] := by
  rw [show (BitVec.ofNat 32 0) = BitVec.ofNat 32 (0 : Fin 16).val from rfl, k0_off4_eq c 0]
  rw [show (c.val + (0 : Fin 16).val) % 16 = c.val from Nat.mod_eq_of_lt (dev_lt c)]
theorem off4 {k : ℕ} (h : k < 16) : k0_off4 c (BitVec.ofNat 32 k) = ![64 * (pr c k).val, 0] := k0_off4_eq c ⟨k, h⟩
/-- A peer's number, counted from the first. -/
theorem one_add {k : ℕ} (h1 : 1 ≤ k) (h2 : k < 16) : ∃ r : Fin 15, k = 1 + r.val ∧ (pr c k).val = (c.val + r.val + 1) % 16 :=
  ⟨⟨k - 1, by omega⟩, by dsimp only; omega, by rw [pr_val]; dsimp only; congr 1; omega⟩
theorem off5 {k : ℕ} (h1 : 1 ≤ k) (h2 : k < 16) : k0_off5 c (BitVec.ofNat 32 k) = ![(pr c k).val] := by
  obtain ⟨r, hr, hv⟩ := one_add (c := c) h1 h2; rw [hv, hr]; exact k0_off5_eq c r
theorem off6 {k : ℕ} (h1 : 1 ≤ k) (h2 : k < 16) : k0_off6 c (BitVec.ofNat 32 k) = ![64 * (pr c k).val, 0] := by
  obtain ⟨r, hr, hv⟩ := one_add (c := c) h1 h2; rw [hv, hr]; exact k0_off6_eq c r
theorem off7 : k0_off7 c = ![c.val, 0, 0] := k0_off7_eq c
theorem off8 {k : ℕ} (h1 : 1 ≤ k) (h2 : k < 16) : k0_off8 c (BitVec.ofNat 32 k) = ![(pr c k).val, 0, 0] := by
  obtain ⟨r, hr, hv⟩ := one_add (c := c) h1 h2; rw [hv, hr]; exact k0_off8_eq c r
theorem off9 {k : ℕ} (h1 : 1 ≤ k) (h2 : k < 16) : k0_off9 c (BitVec.ofNat 32 k) = ![(pr c k).val, 0, 0] := by
  obtain ⟨r, hr, hv⟩ := one_add (c := c) h1 h2; rw [hv, hr]; exact k0_off9_eq c r

/-- A sender's own cell of its `k`-th copy. -/
theorem sem0k {k : ℕ} (h : k < 16) {inb} :
    ((cc0_scratch4.slice (Rect.unit (s := S16) ![k] S1.size inb)).squeeze S_ squeezes_S1_S_).sem = smN 0 (kd k) :=
  sem0 (x := kd k) (by rw [show (kd k).val = k from Nat.mod_eq_of_lt h])
theorem sem2k {k : ℕ} (h : k < 16) {inb} :
    ((cc0_scratch6.slice (Rect.unit (s := S16) ![k] S1.size inb)).squeeze S_ squeezes_S1_S_).sem = smN 2 (kd k) :=
  sem2 (x := kd k) (by rw [show (kd k).val = k from Nat.mod_eq_of_lt h])

end Offsets

/-! ## Windows -/

/-- A window, its continuation hidden behind a postcondition that the continuation proves. -/
theorem wp_window {c : Dev nD} {α β : Type} {p : Prog (TpuEff nD τ sig (Elt F) Λ₀ .tc) α} {k : α → Prog (TpuEff nD τ sig (Elt F) Λ₀ .tc) β}
    {P : sProp 𝕄} {Q : β → sProp 𝕄} (h : ∀ Q' : α → sProp 𝕄, (∀ a, WP c (k a) Q ⊢ Q' a) → P ⊢ WP c p Q') : P ⊢ WP c (p >>= k) Q :=
  wp_seq (h _ fun _ => BIBase.Entails.rfl)
/-- The end of a window. -/
theorem wp_last {c : Dev nD} {α β : Type} {a : α} {k : α → Prog (TpuEff nD τ sig (Elt F) Λ₀ .tc) β} {P : sProp 𝕄} {Q : β → sProp 𝕄} {Q' : α → sProp 𝕄}
    (hQ : ∀ a, WP c (k a) Q ⊢ Q' a) (h : P ⊢ WP c (k a) Q) : P ⊢ WP c (Prog.ret a : Prog (TpuEff nD τ sig (Elt F) Λ₀ .tc) α) Q' :=
  wp_done (h.trans (hQ a))

/-- The device's number is its own. -/
theorem wp_device {c : Dev nD} {k : Dev nD → Prog (TpuEff nD τ sig (Elt F) Λ₀ .tc) α} {P : sProp 𝕄} {Q : α → sProp 𝕄} (h : P ⊢ WP c (k c) Q) :
    P ⊢ WP c (.op .deviceId k) Q := by
  rw [WP, wp_deviceId]; exact h

/-- The next layer's block, the parts added in order. -/
theorem Xv_succ (l : ℕ) : Xv m (l + 1) c =
    addf (addf (addf (addf (addf (addf (addf (addf (addf (addf (addf (addf (addf (addf (addf (Pv m l c c) (Pv m l (pr c 1) c)) (Pv m l (pr c 2) c))
      (Pv m l (pr c 3) c)) (Pv m l (pr c 4) c)) (Pv m l (pr c 5) c)) (Pv m l (pr c 6) c)) (Pv m l (pr c 7) c)) (Pv m l (pr c 8) c)) (Pv m l (pr c 9) c))
      (Pv m l (pr c 10) c)) (Pv m l (pr c 11) c)) (Pv m l (pr c 12) c)) (Pv m l (pr c 13) c)) (Pv m l (pr c 14) c)) (Pv m l (pr c 15) c) := rfl

/-- A slot read as a row block, at the type the program reads it. -/
theorem cast_unsq (X : Blk F) : shapeCast (α := F .f32) S64x512 (unsq X) shapeCasts_S1x64x512_S64x512 = X := shapeCast_unsq X _

attribute [local irreducible] BIBase.Entails wp k0_off1 k0_off2 k0_off3 k0_off4 k0_off5 k0_off6 k0_off7 k0_off8 k0_off9 TD TE T1 T1x T2 T2w T3 T4 T5 T6 T7 T8

set_option maxHeartbeats 0 in
/-- The whole body: every operation in turn, each by the lemma of the state it starts from. -/
theorem body_run {Q : PUnit → sProp 𝕄} (hQ : T8 m K c 16 ⊢ Q ⟨⟩) : TD m K c 1 ⊢ WP c (cc0_body (F := F) xM (Memref.isWhole_whole _) wi0M (Memref.isWhole_whole _) wo0M (Memref.isWhole_whole _) wi1M (Memref.isWhole_whole _)
    wo1M (Memref.isWhole_whole _) wi2M (Memref.isWhole_whole _) wo2M (Memref.isWhole_whole _) outM (Memref.isWhole_whole _) xfM (Memref.isWhole_whole _) ptM (Memref.isWhole_whole _)
    rbM (Memref.isWhole_whole _) msM (Memref.isWhole_whole _) cc0_scratch4 cc0_scratch5 cc0_scratch6 cc0_scratch7) Q := by
  rw [cc0_body_eq_skeleton]
  unfold cc0_body_skel
  refine wp_window fun Q₁ hQ₁ => ?_
  rw [k0_part106_eq_skeleton]
  unfold k0_part106_skel
  repeat
    refine wp_window fun Q' hQ' => ?_
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton, k0_part18_eq_skeleton,
      k0_part19_eq_skeleton, k0_part20_eq_skeleton, k0_part21_eq_skeleton, k0_part22_eq_skeleton, k0_part23_eq_skeleton, k0_part24_eq_skeleton,
      k0_part25_eq_skeleton, k0_part26_eq_skeleton, k0_part27_eq_skeleton, k0_part28_eq_skeleton, k0_part29_eq_skeleton, k0_part30_eq_skeleton,
      k0_part31_eq_skeleton, k0_part32_eq_skeleton, k0_part33_eq_skeleton, k0_part34_eq_skeleton, k0_part35_eq_skeleton, k0_part36_eq_skeleton,
      k0_part37_eq_skeleton, k0_part38_eq_skeleton, k0_part39_eq_skeleton, k0_part40_eq_skeleton, k0_part41_eq_skeleton, k0_part42_eq_skeleton,
      k0_part43_eq_skeleton, k0_part44_eq_skeleton, k0_part45_eq_skeleton, k0_part46_eq_skeleton, k0_part47_eq_skeleton, k0_part48_eq_skeleton,
      k0_part49_eq_skeleton, k0_part50_eq_skeleton, k0_part51_eq_skeleton, k0_part52_eq_skeleton, k0_part53_eq_skeleton, k0_part54_eq_skeleton,
      k0_part55_eq_skeleton, k0_part56_eq_skeleton, k0_part57_eq_skeleton, k0_part58_eq_skeleton, k0_part59_eq_skeleton, k0_part60_eq_skeleton,
      k0_part61_eq_skeleton, k0_part62_eq_skeleton, k0_part63_eq_skeleton, k0_part64_eq_skeleton, k0_part65_eq_skeleton, k0_part66_eq_skeleton,
      k0_part67_eq_skeleton, k0_part68_eq_skeleton, k0_part69_eq_skeleton, k0_part70_eq_skeleton, k0_part71_eq_skeleton, k0_part72_eq_skeleton,
      k0_part73_eq_skeleton, k0_part74_eq_skeleton, k0_part75_eq_skeleton, k0_part76_eq_skeleton, k0_part77_eq_skeleton, k0_part78_eq_skeleton,
      k0_part79_eq_skeleton, k0_part80_eq_skeleton, k0_part81_eq_skeleton, k0_part82_eq_skeleton, k0_part83_eq_skeleton, k0_part84_eq_skeleton,
      k0_part85_eq_skeleton, k0_part86_eq_skeleton, k0_part87_eq_skeleton, k0_part88_eq_skeleton, k0_part89_eq_skeleton, k0_part90_eq_skeleton,
      k0_part91_eq_skeleton, k0_part92_eq_skeleton, k0_part93_eq_skeleton, k0_part94_eq_skeleton, k0_part95_eq_skeleton, k0_part96_eq_skeleton,
      k0_part97_eq_skeleton, k0_part98_eq_skeleton, k0_part99_eq_skeleton, k0_part100_eq_skeleton, k0_part101_eq_skeleton, k0_part102_eq_skeleton,
      k0_part103_eq_skeleton, k0_part104_eq_skeleton, k0_part105_eq_skeleton, k0_part106_eq_skeleton, k0_part107_eq_skeleton]
    dsimp -proj only [k0_part1_skel, k0_part2_skel, k0_part3_skel, k0_part4_skel, k0_part5_skel, k0_part6_skel, k0_part7_skel, k0_part8_skel, k0_part9_skel, k0_part10_skel,
      k0_part11_skel, k0_part12_skel, k0_part13_skel, k0_part14_skel, k0_part15_skel, k0_part16_skel, k0_part17_skel, k0_part18_skel, k0_part19_skel,
      k0_part20_skel, k0_part21_skel, k0_part22_skel, k0_part23_skel, k0_part24_skel, k0_part25_skel, k0_part26_skel, k0_part27_skel, k0_part28_skel,
      k0_part29_skel, k0_part30_skel, k0_part31_skel, k0_part32_skel, k0_part33_skel, k0_part34_skel, k0_part35_skel, k0_part36_skel, k0_part37_skel,
      k0_part38_skel, k0_part39_skel, k0_part40_skel, k0_part41_skel, k0_part42_skel, k0_part43_skel, k0_part44_skel, k0_part45_skel, k0_part46_skel,
      k0_part47_skel, k0_part48_skel, k0_part49_skel, k0_part50_skel, k0_part51_skel, k0_part52_skel, k0_part53_skel, k0_part54_skel, k0_part55_skel,
      k0_part56_skel, k0_part57_skel, k0_part58_skel, k0_part59_skel, k0_part60_skel, k0_part61_skel, k0_part62_skel, k0_part63_skel, k0_part64_skel,
      k0_part65_skel, k0_part66_skel, k0_part67_skel, k0_part68_skel, k0_part69_skel, k0_part70_skel, k0_part71_skel, k0_part72_skel, k0_part73_skel,
      k0_part74_skel, k0_part75_skel, k0_part76_skel, k0_part77_skel, k0_part78_skel, k0_part79_skel, k0_part80_skel, k0_part81_skel, k0_part82_skel,
      k0_part83_skel, k0_part84_skel, k0_part85_skel, k0_part86_skel, k0_part87_skel, k0_part88_skel, k0_part89_skel, k0_part90_skel, k0_part91_skel,
      k0_part92_skel, k0_part93_skel, k0_part94_skel, k0_part95_skel, k0_part96_skel, k0_part97_skel, k0_part98_skel, k0_part99_skel, k0_part100_skel,
      k0_part101_skel, k0_part102_skel, k0_part103_skel, k0_part104_skel, k0_part105_skel, k0_part106_skel, k0_part107_skel,
      semSignalWord, semWaitWord, Prog.lift, Prog.bind_op, Prog.bind_ret, Prog.pure_eq_ret]
    try refine wp_device ?_
    repeat
      first
      | refine step_bar m K c ?_ ?_ ?_ ?_ <;> [decide; decide; exact Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq,
      k0_dev13_eq, k0_dev14_eq, k0_dev15_eq, k0_dev16_eq, k0_dev17_eq, k0_dev18_eq, k0_dev19_eq, k0_dev20_eq, k0_dev21_eq, k0_dev22_eq, k0_dev23_eq,
      k0_dev24_eq, k0_dev25_eq, k0_dev26_eq, k0_dev27_eq, k0_dev28_eq, k0_dev29_eq, k0_dev30_eq, k0_dev31_eq, k0_dev32_eq, k0_dev33_eq, k0_dev34_eq,
      k0_dev35_eq, k0_dev36_eq, k0_dev37_eq, k0_dev38_eq, k0_dev39_eq, k0_dev40_eq, k0_dev41_eq, k0_dev42_eq, k0_dev43_eq, k0_dev44_eq, k0_dev45_eq,
      k0_dev46_eq, k0_dev47_eq, k0_dev48_eq, k0_dev49_eq, k0_dev50_eq, k0_dev51_eq, k0_dev52_eq, k0_dev53_eq, k0_dev54_eq, k0_dev55_eq, k0_dev56_eq,
      k0_dev57_eq, k0_dev58_eq, k0_dev59_eq, k0_dev60_eq, k0_dev61_eq, k0_dev62_eq, k0_dev63_eq, k0_dev64_eq, k0_dev65_eq, k0_dev66_eq, k0_dev67_eq,
      k0_dev68_eq, k0_dev69_eq, k0_dev70_eq, k0_dev71_eq, k0_dev72_eq, k0_dev73_eq, k0_dev74_eq, k0_dev75_eq, k0_dev76_eq, k0_dev77_eq, k0_dev78_eq,
      k0_dev79_eq, k0_dev80_eq, k0_dev81_eq, k0_dev82_eq, k0_dev83_eq, k0_dev84_eq, k0_dev85_eq, k0_dev86_eq, k0_dev87_eq, k0_dev88_eq, k0_dev89_eq,
      k0_dev90_eq, k0_dev91_eq, k0_dev92_eq, k0_dev93_eq, k0_dev94_eq, k0_dev95_eq, k0_dev96_eq, k0_dev97_eq, k0_dev98_eq, k0_dev99_eq, k0_dev100_eq,
      k0_dev101_eq, k0_dev102_eq, k0_dev103_eq, k0_dev104_eq, k0_dev105_eq, k0_dev106_eq, k0_dev107_eq, k0_dev108_eq, k0_dev109_eq, k0_dev110_eq,
      k0_dev111_eq, k0_dev112_eq, k0_dev113_eq, k0_dev114_eq, k0_dev115_eq, k0_dev116_eq, k0_dev117_eq, k0_dev118_eq, k0_dev119_eq, k0_dev120_eq, pr_val]); skip]
      | refine g_send m K ?_ ?_ ?_ ?_ ?_ ?_ ?_ ?_ <;> [decide; decide; decide; exact Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq,
      k0_dev13_eq, k0_dev14_eq, k0_dev15_eq, k0_dev16_eq, k0_dev17_eq, k0_dev18_eq, k0_dev19_eq, k0_dev20_eq, k0_dev21_eq, k0_dev22_eq, k0_dev23_eq,
      k0_dev24_eq, k0_dev25_eq, k0_dev26_eq, k0_dev27_eq, k0_dev28_eq, k0_dev29_eq, k0_dev30_eq, k0_dev31_eq, k0_dev32_eq, k0_dev33_eq, k0_dev34_eq,
      k0_dev35_eq, k0_dev36_eq, k0_dev37_eq, k0_dev38_eq, k0_dev39_eq, k0_dev40_eq, k0_dev41_eq, k0_dev42_eq, k0_dev43_eq, k0_dev44_eq, k0_dev45_eq,
      k0_dev46_eq, k0_dev47_eq, k0_dev48_eq, k0_dev49_eq, k0_dev50_eq, k0_dev51_eq, k0_dev52_eq, k0_dev53_eq, k0_dev54_eq, k0_dev55_eq, k0_dev56_eq,
      k0_dev57_eq, k0_dev58_eq, k0_dev59_eq, k0_dev60_eq, k0_dev61_eq, k0_dev62_eq, k0_dev63_eq, k0_dev64_eq, k0_dev65_eq, k0_dev66_eq, k0_dev67_eq,
      k0_dev68_eq, k0_dev69_eq, k0_dev70_eq, k0_dev71_eq, k0_dev72_eq, k0_dev73_eq, k0_dev74_eq, k0_dev75_eq, k0_dev76_eq, k0_dev77_eq, k0_dev78_eq,
      k0_dev79_eq, k0_dev80_eq, k0_dev81_eq, k0_dev82_eq, k0_dev83_eq, k0_dev84_eq, k0_dev85_eq, k0_dev86_eq, k0_dev87_eq, k0_dev88_eq, k0_dev89_eq,
      k0_dev90_eq, k0_dev91_eq, k0_dev92_eq, k0_dev93_eq, k0_dev94_eq, k0_dev95_eq, k0_dev96_eq, k0_dev97_eq, k0_dev98_eq, k0_dev99_eq, k0_dev100_eq,
      k0_dev101_eq, k0_dev102_eq, k0_dev103_eq, k0_dev104_eq, k0_dev105_eq, k0_dev106_eq, k0_dev107_eq, k0_dev108_eq, k0_dev109_eq, k0_dev110_eq,
      k0_dev111_eq, k0_dev112_eq, k0_dev113_eq, k0_dev114_eq, k0_dev115_eq, k0_dev116_eq, k0_dev117_eq, k0_dev118_eq, k0_dev119_eq, k0_dev120_eq, pr_val]); exact row_eq off2; exact sem0k (by decide); exact sem1 off1; skip]
      | refine f_send m K ?_ ?_ ?_ ?_ ?_ ?_ ?_ <;> [decide; decide; exact Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq,
      k0_dev13_eq, k0_dev14_eq, k0_dev15_eq, k0_dev16_eq, k0_dev17_eq, k0_dev18_eq, k0_dev19_eq, k0_dev20_eq, k0_dev21_eq, k0_dev22_eq, k0_dev23_eq,
      k0_dev24_eq, k0_dev25_eq, k0_dev26_eq, k0_dev27_eq, k0_dev28_eq, k0_dev29_eq, k0_dev30_eq, k0_dev31_eq, k0_dev32_eq, k0_dev33_eq, k0_dev34_eq,
      k0_dev35_eq, k0_dev36_eq, k0_dev37_eq, k0_dev38_eq, k0_dev39_eq, k0_dev40_eq, k0_dev41_eq, k0_dev42_eq, k0_dev43_eq, k0_dev44_eq, k0_dev45_eq,
      k0_dev46_eq, k0_dev47_eq, k0_dev48_eq, k0_dev49_eq, k0_dev50_eq, k0_dev51_eq, k0_dev52_eq, k0_dev53_eq, k0_dev54_eq, k0_dev55_eq, k0_dev56_eq,
      k0_dev57_eq, k0_dev58_eq, k0_dev59_eq, k0_dev60_eq, k0_dev61_eq, k0_dev62_eq, k0_dev63_eq, k0_dev64_eq, k0_dev65_eq, k0_dev66_eq, k0_dev67_eq,
      k0_dev68_eq, k0_dev69_eq, k0_dev70_eq, k0_dev71_eq, k0_dev72_eq, k0_dev73_eq, k0_dev74_eq, k0_dev75_eq, k0_dev76_eq, k0_dev77_eq, k0_dev78_eq,
      k0_dev79_eq, k0_dev80_eq, k0_dev81_eq, k0_dev82_eq, k0_dev83_eq, k0_dev84_eq, k0_dev85_eq, k0_dev86_eq, k0_dev87_eq, k0_dev88_eq, k0_dev89_eq,
      k0_dev90_eq, k0_dev91_eq, k0_dev92_eq, k0_dev93_eq, k0_dev94_eq, k0_dev95_eq, k0_dev96_eq, k0_dev97_eq, k0_dev98_eq, k0_dev99_eq, k0_dev100_eq,
      k0_dev101_eq, k0_dev102_eq, k0_dev103_eq, k0_dev104_eq, k0_dev105_eq, k0_dev106_eq, k0_dev107_eq, k0_dev108_eq, k0_dev109_eq, k0_dev110_eq,
      k0_dev111_eq, k0_dev112_eq, k0_dev113_eq, k0_dev114_eq, k0_dev115_eq, k0_dev116_eq, k0_dev117_eq, k0_dev118_eq, k0_dev119_eq, k0_dev120_eq, pr_val]); (first | exact row_eq off2 | exact row_eq off3); exact sem0k (by decide); exact sem1 off1; skip]
      | refine a_wait m K ?_ ?_ ?_ ?_ ?_ ?_ <;> [decide; decide; decide; exact sem1 (off5 (by decide) (by decide)); exact View.dmaCredit_closed _ S64x512 rfl _ rfl N rfl; skip]
      | refine a_x m K ?_ ?_ <;> [exact off4 (by decide); skip]
      | refine a_wi m K ?_ ?_ ?_ <;> [decide; rfl; skip]
      | refine a_wo m K ?_ ?_ ?_ <;> [decide; rfl; skip]
      | refine a_p m K ?_ (fun _ => ?_) <;> [exact off4 (by decide); skip]
      | refine a_st m K ?_ ?_ ?_ <;> [exact off4 (by decide); simp only [Pv, partOf, k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, shapeCast_self]; skip]
      | refine a_send m K ?_ ?_ ?_ ?_ ?_ ?_ ?_ ?_ ?_ <;> [decide; decide; decide; exact Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq,
      k0_dev13_eq, k0_dev14_eq, k0_dev15_eq, k0_dev16_eq, k0_dev17_eq, k0_dev18_eq, k0_dev19_eq, k0_dev20_eq, k0_dev21_eq, k0_dev22_eq, k0_dev23_eq,
      k0_dev24_eq, k0_dev25_eq, k0_dev26_eq, k0_dev27_eq, k0_dev28_eq, k0_dev29_eq, k0_dev30_eq, k0_dev31_eq, k0_dev32_eq, k0_dev33_eq, k0_dev34_eq,
      k0_dev35_eq, k0_dev36_eq, k0_dev37_eq, k0_dev38_eq, k0_dev39_eq, k0_dev40_eq, k0_dev41_eq, k0_dev42_eq, k0_dev43_eq, k0_dev44_eq, k0_dev45_eq,
      k0_dev46_eq, k0_dev47_eq, k0_dev48_eq, k0_dev49_eq, k0_dev50_eq, k0_dev51_eq, k0_dev52_eq, k0_dev53_eq, k0_dev54_eq, k0_dev55_eq, k0_dev56_eq,
      k0_dev57_eq, k0_dev58_eq, k0_dev59_eq, k0_dev60_eq, k0_dev61_eq, k0_dev62_eq, k0_dev63_eq, k0_dev64_eq, k0_dev65_eq, k0_dev66_eq, k0_dev67_eq,
      k0_dev68_eq, k0_dev69_eq, k0_dev70_eq, k0_dev71_eq, k0_dev72_eq, k0_dev73_eq, k0_dev74_eq, k0_dev75_eq, k0_dev76_eq, k0_dev77_eq, k0_dev78_eq,
      k0_dev79_eq, k0_dev80_eq, k0_dev81_eq, k0_dev82_eq, k0_dev83_eq, k0_dev84_eq, k0_dev85_eq, k0_dev86_eq, k0_dev87_eq, k0_dev88_eq, k0_dev89_eq,
      k0_dev90_eq, k0_dev91_eq, k0_dev92_eq, k0_dev93_eq, k0_dev94_eq, k0_dev95_eq, k0_dev96_eq, k0_dev97_eq, k0_dev98_eq, k0_dev99_eq, k0_dev100_eq,
      k0_dev101_eq, k0_dev102_eq, k0_dev103_eq, k0_dev104_eq, k0_dev105_eq, k0_dev106_eq, k0_dev107_eq, k0_dev108_eq, k0_dev109_eq, k0_dev110_eq,
      k0_dev111_eq, k0_dev112_eq, k0_dev113_eq, k0_dev114_eq, k0_dev115_eq, k0_dev116_eq, k0_dev117_eq, k0_dev118_eq, k0_dev119_eq, k0_dev120_eq, pr_val]); exact row_eq (off6 (by decide) (by decide)); exact slot_eq off7; exact sem2k (by decide); exact sem3 off1; skip]
      | refine r_wait m K ?_ ?_ ?_ ?_ ?_ ?_ <;> [decide; decide; decide; exact sem3 (off5 (by decide) (by decide)); exact View.dmaCredit_closed _ S64x512 rfl _ rfl N rfl; skip]
      | refine r_ld m K ?_ ?_ ?_ <;> [decide; exact off9 (by decide) (by decide); skip]
      | refine d_wait m K ?_ ?_ ?_ ?_ ?_ ?_ <;> [decide; decide; decide; exact sem0k (by decide); exact View.dmaCredit_closed _ S64x512 rfl _ rfl N rfl; skip]
      | refine s_wait m K ?_ ?_ ?_ ?_ ?_ ?_ <;> [decide; decide; decide; exact sem2k (by decide); exact View.dmaCredit_closed _ S64x512 rfl _ rfl N rfl; skip]
      | refine f_wait m K ?_ ?_ ?_ ?_ ?_ <;> [decide; decide; exact sem1 (off5 (by decide) (by decide)); exact View.dmaCredit_closed _ S64x512 rfl _ rfl N rfl; skip]
      | refine f_dep m K ?_ ?_ ?_ ?_ ?_ <;> [decide; decide; exact sem0k (by decide); exact View.dmaCredit_closed _ S64x512 rfl _ rfl N rfl; skip]
      | refine e_wait m K ?_
      | refine e_x m K ?_
      | refine e_ms m K (fun _ => ?_)
      | refine e_st m K ?_ ?_ <;> [simp only [k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, shapeCast_self]; skip]
      | refine g_ms m K ?_
      | refine g_x m K ?_ (fun _ => ?_) <;> [(first | exact off3 | exact off4_0); skip]
      | refine g_st m K ?_ ?_ ?_ ?_ <;> [decide; (first | exact off3 | exact off4_0); simp only [k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, shapeCast_self]; skip]
      | refine x_x m K ?_ ?_ <;> [(first | exact off3 | exact off4_0); skip]
      | refine x_wi m K ?_ ?_ ?_ <;> [decide; rfl; skip]
      | refine x_wo m K ?_ ?_ ?_ <;> [decide; rfl; skip]
      | refine x_p m K ?_ (fun _ => ?_) <;> [(first | exact off3 | exact off4_0); skip]
      | refine x_st m K ?_ ?_ ?_ <;> [(first | exact off3 | exact off4_0); simp only [Pv, partOf, k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, shapeCast_self]; skip]
      | refine r_start m K ?_ ?_ ?_ <;> [decide; (first | exact off3 | exact off4_0); skip]
      | refine r_ms m K ?_
      | refine r_st m K ?_ ?_ <;> [exact Eq.trans (by simp only [k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, shapeCast_self, cast_unsq]) (Xv_succ m c _).symm; skip]
      | refine f_ms m K ?_
      | refine f_o m K ?_ (fun _ => ?_) <;> [(first | exact off3 | exact off2 | exact off4_0); skip]
      | refine f_st m K ?_ ?_ ?_ <;> [(first | exact off3 | exact off2 | exact off4_0); simp only [k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, shapeCast_self]; skip]
      | refine (T4_T5 m K _).trans ?_
      | refine (T5_T1 m K _ ?_).trans ?_ <;> [decide; skip]
      | refine (T5_T6 m K).trans ?_
      | refine (T7_T8 m K).trans ?_
      | dsimp only [Nat.reduceAdd]
    refine wp_last hQ' ?_
    clear hQ' Q'
  dsimp only [Prog.pure_eq_ret]
  refine wp_last hQ₁ ?_
  clear hQ₁
  refine wp_window fun Q₁ hQ₁ => ?_
  rw [k0_part107_eq_skeleton]
  unfold k0_part107_skel
  repeat
    refine wp_window fun Q' hQ' => ?_
    simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton, k0_part18_eq_skeleton,
      k0_part19_eq_skeleton, k0_part20_eq_skeleton, k0_part21_eq_skeleton, k0_part22_eq_skeleton, k0_part23_eq_skeleton, k0_part24_eq_skeleton,
      k0_part25_eq_skeleton, k0_part26_eq_skeleton, k0_part27_eq_skeleton, k0_part28_eq_skeleton, k0_part29_eq_skeleton, k0_part30_eq_skeleton,
      k0_part31_eq_skeleton, k0_part32_eq_skeleton, k0_part33_eq_skeleton, k0_part34_eq_skeleton, k0_part35_eq_skeleton, k0_part36_eq_skeleton,
      k0_part37_eq_skeleton, k0_part38_eq_skeleton, k0_part39_eq_skeleton, k0_part40_eq_skeleton, k0_part41_eq_skeleton, k0_part42_eq_skeleton,
      k0_part43_eq_skeleton, k0_part44_eq_skeleton, k0_part45_eq_skeleton, k0_part46_eq_skeleton, k0_part47_eq_skeleton, k0_part48_eq_skeleton,
      k0_part49_eq_skeleton, k0_part50_eq_skeleton, k0_part51_eq_skeleton, k0_part52_eq_skeleton, k0_part53_eq_skeleton, k0_part54_eq_skeleton,
      k0_part55_eq_skeleton, k0_part56_eq_skeleton, k0_part57_eq_skeleton, k0_part58_eq_skeleton, k0_part59_eq_skeleton, k0_part60_eq_skeleton,
      k0_part61_eq_skeleton, k0_part62_eq_skeleton, k0_part63_eq_skeleton, k0_part64_eq_skeleton, k0_part65_eq_skeleton, k0_part66_eq_skeleton,
      k0_part67_eq_skeleton, k0_part68_eq_skeleton, k0_part69_eq_skeleton, k0_part70_eq_skeleton, k0_part71_eq_skeleton, k0_part72_eq_skeleton,
      k0_part73_eq_skeleton, k0_part74_eq_skeleton, k0_part75_eq_skeleton, k0_part76_eq_skeleton, k0_part77_eq_skeleton, k0_part78_eq_skeleton,
      k0_part79_eq_skeleton, k0_part80_eq_skeleton, k0_part81_eq_skeleton, k0_part82_eq_skeleton, k0_part83_eq_skeleton, k0_part84_eq_skeleton,
      k0_part85_eq_skeleton, k0_part86_eq_skeleton, k0_part87_eq_skeleton, k0_part88_eq_skeleton, k0_part89_eq_skeleton, k0_part90_eq_skeleton,
      k0_part91_eq_skeleton, k0_part92_eq_skeleton, k0_part93_eq_skeleton, k0_part94_eq_skeleton, k0_part95_eq_skeleton, k0_part96_eq_skeleton,
      k0_part97_eq_skeleton, k0_part98_eq_skeleton, k0_part99_eq_skeleton, k0_part100_eq_skeleton, k0_part101_eq_skeleton, k0_part102_eq_skeleton,
      k0_part103_eq_skeleton, k0_part104_eq_skeleton, k0_part105_eq_skeleton, k0_part106_eq_skeleton, k0_part107_eq_skeleton]
    dsimp -proj only [k0_part1_skel, k0_part2_skel, k0_part3_skel, k0_part4_skel, k0_part5_skel, k0_part6_skel, k0_part7_skel, k0_part8_skel, k0_part9_skel, k0_part10_skel,
      k0_part11_skel, k0_part12_skel, k0_part13_skel, k0_part14_skel, k0_part15_skel, k0_part16_skel, k0_part17_skel, k0_part18_skel, k0_part19_skel,
      k0_part20_skel, k0_part21_skel, k0_part22_skel, k0_part23_skel, k0_part24_skel, k0_part25_skel, k0_part26_skel, k0_part27_skel, k0_part28_skel,
      k0_part29_skel, k0_part30_skel, k0_part31_skel, k0_part32_skel, k0_part33_skel, k0_part34_skel, k0_part35_skel, k0_part36_skel, k0_part37_skel,
      k0_part38_skel, k0_part39_skel, k0_part40_skel, k0_part41_skel, k0_part42_skel, k0_part43_skel, k0_part44_skel, k0_part45_skel, k0_part46_skel,
      k0_part47_skel, k0_part48_skel, k0_part49_skel, k0_part50_skel, k0_part51_skel, k0_part52_skel, k0_part53_skel, k0_part54_skel, k0_part55_skel,
      k0_part56_skel, k0_part57_skel, k0_part58_skel, k0_part59_skel, k0_part60_skel, k0_part61_skel, k0_part62_skel, k0_part63_skel, k0_part64_skel,
      k0_part65_skel, k0_part66_skel, k0_part67_skel, k0_part68_skel, k0_part69_skel, k0_part70_skel, k0_part71_skel, k0_part72_skel, k0_part73_skel,
      k0_part74_skel, k0_part75_skel, k0_part76_skel, k0_part77_skel, k0_part78_skel, k0_part79_skel, k0_part80_skel, k0_part81_skel, k0_part82_skel,
      k0_part83_skel, k0_part84_skel, k0_part85_skel, k0_part86_skel, k0_part87_skel, k0_part88_skel, k0_part89_skel, k0_part90_skel, k0_part91_skel,
      k0_part92_skel, k0_part93_skel, k0_part94_skel, k0_part95_skel, k0_part96_skel, k0_part97_skel, k0_part98_skel, k0_part99_skel, k0_part100_skel,
      k0_part101_skel, k0_part102_skel, k0_part103_skel, k0_part104_skel, k0_part105_skel, k0_part106_skel, k0_part107_skel,
      semSignalWord, semWaitWord, Prog.lift, Prog.bind_op, Prog.bind_ret, Prog.pure_eq_ret]
    try refine wp_device ?_
    repeat
      first
      | refine step_bar m K c ?_ ?_ ?_ ?_ <;> [decide; decide; exact Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq,
      k0_dev13_eq, k0_dev14_eq, k0_dev15_eq, k0_dev16_eq, k0_dev17_eq, k0_dev18_eq, k0_dev19_eq, k0_dev20_eq, k0_dev21_eq, k0_dev22_eq, k0_dev23_eq,
      k0_dev24_eq, k0_dev25_eq, k0_dev26_eq, k0_dev27_eq, k0_dev28_eq, k0_dev29_eq, k0_dev30_eq, k0_dev31_eq, k0_dev32_eq, k0_dev33_eq, k0_dev34_eq,
      k0_dev35_eq, k0_dev36_eq, k0_dev37_eq, k0_dev38_eq, k0_dev39_eq, k0_dev40_eq, k0_dev41_eq, k0_dev42_eq, k0_dev43_eq, k0_dev44_eq, k0_dev45_eq,
      k0_dev46_eq, k0_dev47_eq, k0_dev48_eq, k0_dev49_eq, k0_dev50_eq, k0_dev51_eq, k0_dev52_eq, k0_dev53_eq, k0_dev54_eq, k0_dev55_eq, k0_dev56_eq,
      k0_dev57_eq, k0_dev58_eq, k0_dev59_eq, k0_dev60_eq, k0_dev61_eq, k0_dev62_eq, k0_dev63_eq, k0_dev64_eq, k0_dev65_eq, k0_dev66_eq, k0_dev67_eq,
      k0_dev68_eq, k0_dev69_eq, k0_dev70_eq, k0_dev71_eq, k0_dev72_eq, k0_dev73_eq, k0_dev74_eq, k0_dev75_eq, k0_dev76_eq, k0_dev77_eq, k0_dev78_eq,
      k0_dev79_eq, k0_dev80_eq, k0_dev81_eq, k0_dev82_eq, k0_dev83_eq, k0_dev84_eq, k0_dev85_eq, k0_dev86_eq, k0_dev87_eq, k0_dev88_eq, k0_dev89_eq,
      k0_dev90_eq, k0_dev91_eq, k0_dev92_eq, k0_dev93_eq, k0_dev94_eq, k0_dev95_eq, k0_dev96_eq, k0_dev97_eq, k0_dev98_eq, k0_dev99_eq, k0_dev100_eq,
      k0_dev101_eq, k0_dev102_eq, k0_dev103_eq, k0_dev104_eq, k0_dev105_eq, k0_dev106_eq, k0_dev107_eq, k0_dev108_eq, k0_dev109_eq, k0_dev110_eq,
      k0_dev111_eq, k0_dev112_eq, k0_dev113_eq, k0_dev114_eq, k0_dev115_eq, k0_dev116_eq, k0_dev117_eq, k0_dev118_eq, k0_dev119_eq, k0_dev120_eq, pr_val]); skip]
      | refine g_send m K ?_ ?_ ?_ ?_ ?_ ?_ ?_ ?_ <;> [decide; decide; decide; exact Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq,
      k0_dev13_eq, k0_dev14_eq, k0_dev15_eq, k0_dev16_eq, k0_dev17_eq, k0_dev18_eq, k0_dev19_eq, k0_dev20_eq, k0_dev21_eq, k0_dev22_eq, k0_dev23_eq,
      k0_dev24_eq, k0_dev25_eq, k0_dev26_eq, k0_dev27_eq, k0_dev28_eq, k0_dev29_eq, k0_dev30_eq, k0_dev31_eq, k0_dev32_eq, k0_dev33_eq, k0_dev34_eq,
      k0_dev35_eq, k0_dev36_eq, k0_dev37_eq, k0_dev38_eq, k0_dev39_eq, k0_dev40_eq, k0_dev41_eq, k0_dev42_eq, k0_dev43_eq, k0_dev44_eq, k0_dev45_eq,
      k0_dev46_eq, k0_dev47_eq, k0_dev48_eq, k0_dev49_eq, k0_dev50_eq, k0_dev51_eq, k0_dev52_eq, k0_dev53_eq, k0_dev54_eq, k0_dev55_eq, k0_dev56_eq,
      k0_dev57_eq, k0_dev58_eq, k0_dev59_eq, k0_dev60_eq, k0_dev61_eq, k0_dev62_eq, k0_dev63_eq, k0_dev64_eq, k0_dev65_eq, k0_dev66_eq, k0_dev67_eq,
      k0_dev68_eq, k0_dev69_eq, k0_dev70_eq, k0_dev71_eq, k0_dev72_eq, k0_dev73_eq, k0_dev74_eq, k0_dev75_eq, k0_dev76_eq, k0_dev77_eq, k0_dev78_eq,
      k0_dev79_eq, k0_dev80_eq, k0_dev81_eq, k0_dev82_eq, k0_dev83_eq, k0_dev84_eq, k0_dev85_eq, k0_dev86_eq, k0_dev87_eq, k0_dev88_eq, k0_dev89_eq,
      k0_dev90_eq, k0_dev91_eq, k0_dev92_eq, k0_dev93_eq, k0_dev94_eq, k0_dev95_eq, k0_dev96_eq, k0_dev97_eq, k0_dev98_eq, k0_dev99_eq, k0_dev100_eq,
      k0_dev101_eq, k0_dev102_eq, k0_dev103_eq, k0_dev104_eq, k0_dev105_eq, k0_dev106_eq, k0_dev107_eq, k0_dev108_eq, k0_dev109_eq, k0_dev110_eq,
      k0_dev111_eq, k0_dev112_eq, k0_dev113_eq, k0_dev114_eq, k0_dev115_eq, k0_dev116_eq, k0_dev117_eq, k0_dev118_eq, k0_dev119_eq, k0_dev120_eq, pr_val]); exact row_eq off2; exact sem0k (by decide); exact sem1 off1; skip]
      | refine f_send m K ?_ ?_ ?_ ?_ ?_ ?_ ?_ <;> [decide; decide; exact Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq,
      k0_dev13_eq, k0_dev14_eq, k0_dev15_eq, k0_dev16_eq, k0_dev17_eq, k0_dev18_eq, k0_dev19_eq, k0_dev20_eq, k0_dev21_eq, k0_dev22_eq, k0_dev23_eq,
      k0_dev24_eq, k0_dev25_eq, k0_dev26_eq, k0_dev27_eq, k0_dev28_eq, k0_dev29_eq, k0_dev30_eq, k0_dev31_eq, k0_dev32_eq, k0_dev33_eq, k0_dev34_eq,
      k0_dev35_eq, k0_dev36_eq, k0_dev37_eq, k0_dev38_eq, k0_dev39_eq, k0_dev40_eq, k0_dev41_eq, k0_dev42_eq, k0_dev43_eq, k0_dev44_eq, k0_dev45_eq,
      k0_dev46_eq, k0_dev47_eq, k0_dev48_eq, k0_dev49_eq, k0_dev50_eq, k0_dev51_eq, k0_dev52_eq, k0_dev53_eq, k0_dev54_eq, k0_dev55_eq, k0_dev56_eq,
      k0_dev57_eq, k0_dev58_eq, k0_dev59_eq, k0_dev60_eq, k0_dev61_eq, k0_dev62_eq, k0_dev63_eq, k0_dev64_eq, k0_dev65_eq, k0_dev66_eq, k0_dev67_eq,
      k0_dev68_eq, k0_dev69_eq, k0_dev70_eq, k0_dev71_eq, k0_dev72_eq, k0_dev73_eq, k0_dev74_eq, k0_dev75_eq, k0_dev76_eq, k0_dev77_eq, k0_dev78_eq,
      k0_dev79_eq, k0_dev80_eq, k0_dev81_eq, k0_dev82_eq, k0_dev83_eq, k0_dev84_eq, k0_dev85_eq, k0_dev86_eq, k0_dev87_eq, k0_dev88_eq, k0_dev89_eq,
      k0_dev90_eq, k0_dev91_eq, k0_dev92_eq, k0_dev93_eq, k0_dev94_eq, k0_dev95_eq, k0_dev96_eq, k0_dev97_eq, k0_dev98_eq, k0_dev99_eq, k0_dev100_eq,
      k0_dev101_eq, k0_dev102_eq, k0_dev103_eq, k0_dev104_eq, k0_dev105_eq, k0_dev106_eq, k0_dev107_eq, k0_dev108_eq, k0_dev109_eq, k0_dev110_eq,
      k0_dev111_eq, k0_dev112_eq, k0_dev113_eq, k0_dev114_eq, k0_dev115_eq, k0_dev116_eq, k0_dev117_eq, k0_dev118_eq, k0_dev119_eq, k0_dev120_eq, pr_val]); (first | exact row_eq off2 | exact row_eq off3); exact sem0k (by decide); exact sem1 off1; skip]
      | refine a_wait m K ?_ ?_ ?_ ?_ ?_ ?_ <;> [decide; decide; decide; exact sem1 (off5 (by decide) (by decide)); exact View.dmaCredit_closed _ S64x512 rfl _ rfl N rfl; skip]
      | refine a_x m K ?_ ?_ <;> [exact off4 (by decide); skip]
      | refine a_wi m K ?_ ?_ ?_ <;> [decide; rfl; skip]
      | refine a_wo m K ?_ ?_ ?_ <;> [decide; rfl; skip]
      | refine a_p m K ?_ (fun _ => ?_) <;> [exact off4 (by decide); skip]
      | refine a_st m K ?_ ?_ ?_ <;> [exact off4 (by decide); simp only [Pv, partOf, k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, shapeCast_self]; skip]
      | refine a_send m K ?_ ?_ ?_ ?_ ?_ ?_ ?_ ?_ ?_ <;> [decide; decide; decide; exact Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq,
      k0_dev13_eq, k0_dev14_eq, k0_dev15_eq, k0_dev16_eq, k0_dev17_eq, k0_dev18_eq, k0_dev19_eq, k0_dev20_eq, k0_dev21_eq, k0_dev22_eq, k0_dev23_eq,
      k0_dev24_eq, k0_dev25_eq, k0_dev26_eq, k0_dev27_eq, k0_dev28_eq, k0_dev29_eq, k0_dev30_eq, k0_dev31_eq, k0_dev32_eq, k0_dev33_eq, k0_dev34_eq,
      k0_dev35_eq, k0_dev36_eq, k0_dev37_eq, k0_dev38_eq, k0_dev39_eq, k0_dev40_eq, k0_dev41_eq, k0_dev42_eq, k0_dev43_eq, k0_dev44_eq, k0_dev45_eq,
      k0_dev46_eq, k0_dev47_eq, k0_dev48_eq, k0_dev49_eq, k0_dev50_eq, k0_dev51_eq, k0_dev52_eq, k0_dev53_eq, k0_dev54_eq, k0_dev55_eq, k0_dev56_eq,
      k0_dev57_eq, k0_dev58_eq, k0_dev59_eq, k0_dev60_eq, k0_dev61_eq, k0_dev62_eq, k0_dev63_eq, k0_dev64_eq, k0_dev65_eq, k0_dev66_eq, k0_dev67_eq,
      k0_dev68_eq, k0_dev69_eq, k0_dev70_eq, k0_dev71_eq, k0_dev72_eq, k0_dev73_eq, k0_dev74_eq, k0_dev75_eq, k0_dev76_eq, k0_dev77_eq, k0_dev78_eq,
      k0_dev79_eq, k0_dev80_eq, k0_dev81_eq, k0_dev82_eq, k0_dev83_eq, k0_dev84_eq, k0_dev85_eq, k0_dev86_eq, k0_dev87_eq, k0_dev88_eq, k0_dev89_eq,
      k0_dev90_eq, k0_dev91_eq, k0_dev92_eq, k0_dev93_eq, k0_dev94_eq, k0_dev95_eq, k0_dev96_eq, k0_dev97_eq, k0_dev98_eq, k0_dev99_eq, k0_dev100_eq,
      k0_dev101_eq, k0_dev102_eq, k0_dev103_eq, k0_dev104_eq, k0_dev105_eq, k0_dev106_eq, k0_dev107_eq, k0_dev108_eq, k0_dev109_eq, k0_dev110_eq,
      k0_dev111_eq, k0_dev112_eq, k0_dev113_eq, k0_dev114_eq, k0_dev115_eq, k0_dev116_eq, k0_dev117_eq, k0_dev118_eq, k0_dev119_eq, k0_dev120_eq, pr_val]); exact row_eq (off6 (by decide) (by decide)); exact slot_eq off7; exact sem2k (by decide); exact sem3 off1; skip]
      | refine r_wait m K ?_ ?_ ?_ ?_ ?_ ?_ <;> [decide; decide; decide; exact sem3 (off5 (by decide) (by decide)); exact View.dmaCredit_closed _ S64x512 rfl _ rfl N rfl; skip]
      | refine r_ld m K ?_ ?_ ?_ <;> [decide; exact off9 (by decide) (by decide); skip]
      | refine d_wait m K ?_ ?_ ?_ ?_ ?_ ?_ <;> [decide; decide; decide; exact sem0k (by decide); exact View.dmaCredit_closed _ S64x512 rfl _ rfl N rfl; skip]
      | refine s_wait m K ?_ ?_ ?_ ?_ ?_ ?_ <;> [decide; decide; decide; exact sem2k (by decide); exact View.dmaCredit_closed _ S64x512 rfl _ rfl N rfl; skip]
      | refine f_wait m K ?_ ?_ ?_ ?_ ?_ <;> [decide; decide; exact sem1 (off5 (by decide) (by decide)); exact View.dmaCredit_closed _ S64x512 rfl _ rfl N rfl; skip]
      | refine f_dep m K ?_ ?_ ?_ ?_ ?_ <;> [decide; decide; exact sem0k (by decide); exact View.dmaCredit_closed _ S64x512 rfl _ rfl N rfl; skip]
      | refine e_wait m K ?_
      | refine e_x m K ?_
      | refine e_ms m K (fun _ => ?_)
      | refine e_st m K ?_ ?_ <;> [simp only [k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, shapeCast_self]; skip]
      | refine g_ms m K ?_
      | refine g_x m K ?_ (fun _ => ?_) <;> [(first | exact off3 | exact off4_0); skip]
      | refine g_st m K ?_ ?_ ?_ ?_ <;> [decide; (first | exact off3 | exact off4_0); simp only [k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, shapeCast_self]; skip]
      | refine x_x m K ?_ ?_ <;> [(first | exact off3 | exact off4_0); skip]
      | refine x_wi m K ?_ ?_ ?_ <;> [decide; rfl; skip]
      | refine x_wo m K ?_ ?_ ?_ <;> [decide; rfl; skip]
      | refine x_p m K ?_ (fun _ => ?_) <;> [(first | exact off3 | exact off4_0); skip]
      | refine x_st m K ?_ ?_ ?_ <;> [(first | exact off3 | exact off4_0); simp only [Pv, partOf, k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, shapeCast_self]; skip]
      | refine r_start m K ?_ ?_ ?_ <;> [decide; (first | exact off3 | exact off4_0); skip]
      | refine r_ms m K ?_
      | refine r_st m K ?_ ?_ <;> [exact Eq.trans (by simp only [k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, shapeCast_self, cast_unsq]) (Xv_succ m c _).symm; skip]
      | refine f_ms m K ?_
      | refine f_o m K ?_ (fun _ => ?_) <;> [(first | exact off3 | exact off2 | exact off4_0); skip]
      | refine f_st m K ?_ ?_ ?_ <;> [(first | exact off3 | exact off2 | exact off4_0); simp only [k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, shapeCast_self]; skip]
      | refine (T4_T5 m K _).trans ?_
      | refine (T5_T1 m K _ ?_).trans ?_ <;> [decide; skip]
      | refine (T5_T6 m K).trans ?_
      | refine (T7_T8 m K).trans ?_
      | dsimp only [Nat.reduceAdd]
    refine wp_last hQ' ?_
    clear hQ' Q'

  dsimp only [Prog.pure_eq_ret]
  refine wp_last hQ₁ ?_
  clear hQ₁
  dsimp -proj only [semSignalWord, semWaitWord, Prog.lift, Prog.bind_op, Prog.bind_ret, Prog.pure_eq_ret]
  repeat
    first
    | refine f_send m K ?_ ?_ ?_ ?_ ?_ ?_ ?_ <;> [decide; decide; exact Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq,
      k0_dev13_eq, k0_dev14_eq, k0_dev15_eq, k0_dev16_eq, k0_dev17_eq, k0_dev18_eq, k0_dev19_eq, k0_dev20_eq, k0_dev21_eq, k0_dev22_eq, k0_dev23_eq,
      k0_dev24_eq, k0_dev25_eq, k0_dev26_eq, k0_dev27_eq, k0_dev28_eq, k0_dev29_eq, k0_dev30_eq, k0_dev31_eq, k0_dev32_eq, k0_dev33_eq, k0_dev34_eq,
      k0_dev35_eq, k0_dev36_eq, k0_dev37_eq, k0_dev38_eq, k0_dev39_eq, k0_dev40_eq, k0_dev41_eq, k0_dev42_eq, k0_dev43_eq, k0_dev44_eq, k0_dev45_eq,
      k0_dev46_eq, k0_dev47_eq, k0_dev48_eq, k0_dev49_eq, k0_dev50_eq, k0_dev51_eq, k0_dev52_eq, k0_dev53_eq, k0_dev54_eq, k0_dev55_eq, k0_dev56_eq,
      k0_dev57_eq, k0_dev58_eq, k0_dev59_eq, k0_dev60_eq, k0_dev61_eq, k0_dev62_eq, k0_dev63_eq, k0_dev64_eq, k0_dev65_eq, k0_dev66_eq, k0_dev67_eq,
      k0_dev68_eq, k0_dev69_eq, k0_dev70_eq, k0_dev71_eq, k0_dev72_eq, k0_dev73_eq, k0_dev74_eq, k0_dev75_eq, k0_dev76_eq, k0_dev77_eq, k0_dev78_eq,
      k0_dev79_eq, k0_dev80_eq, k0_dev81_eq, k0_dev82_eq, k0_dev83_eq, k0_dev84_eq, k0_dev85_eq, k0_dev86_eq, k0_dev87_eq, k0_dev88_eq, k0_dev89_eq,
      k0_dev90_eq, k0_dev91_eq, k0_dev92_eq, k0_dev93_eq, k0_dev94_eq, k0_dev95_eq, k0_dev96_eq, k0_dev97_eq, k0_dev98_eq, k0_dev99_eq, k0_dev100_eq,
      k0_dev101_eq, k0_dev102_eq, k0_dev103_eq, k0_dev104_eq, k0_dev105_eq, k0_dev106_eq, k0_dev107_eq, k0_dev108_eq, k0_dev109_eq, k0_dev110_eq,
      k0_dev111_eq, k0_dev112_eq, k0_dev113_eq, k0_dev114_eq, k0_dev115_eq, k0_dev116_eq, k0_dev117_eq, k0_dev118_eq, k0_dev119_eq, k0_dev120_eq, pr_val]); (first | exact row_eq off2 | exact row_eq off3); exact sem0k (by decide); exact sem1 off1; skip]
    | refine f_wait m K ?_ ?_ ?_ ?_ ?_ <;> [decide; decide; exact sem1 (off5 (by decide) (by decide)); exact View.dmaCredit_closed _ S64x512 rfl _ rfl N rfl; skip]
    | refine f_dep m K ?_ ?_ ?_ ?_ ?_ <;> [decide; decide; exact sem0k (by decide); exact View.dmaCredit_closed _ S64x512 rfl _ rfl N rfl; skip]
    | refine f_ms m K ?_
    | refine f_o m K ?_ (fun _ => ?_) <;> [(first | exact off3 | exact off2 | exact off4_0); skip]
    | refine f_st m K ?_ ?_ ?_ <;> [(first | exact off3 | exact off2 | exact off4_0); simp only [k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75, k0_pay76,
      k0_pay77, k0_pay78, k0_pay79, k0_pay80, k0_pay81, k0_pay82, k0_pay83, k0_pay84, k0_pay85, k0_pay86, k0_pay87, k0_pay88, k0_pay89, shapeCast_self]; skip]
    | dsimp only [Nat.reduceAdd]
  exact wp_done hQ

end Cert.MlpProof

end
-- ==== Proof.Run.lean ====
/-
# The run

The launch of the sixteen bodies, and what each device's arrays hold after it.
-/
module

public import proofs.«01_k».proof.Proof.Entry
public import proofs.«01_k».proof.Proof.Chain
public import proofs.«01_k».proof.Proof.Gen.KernelIdeal.Points
public import Idealize.ShloMosaic.Lib.Pipeline.Kit
public import Idealize.ShloMosaic.Lib.Pipeline.CollectiveSegs

@[expose] public section

noncomputable section

namespace Cert.MlpProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites (Pay tallyL)
open Idealize.ShloMosaic.SiteBlocks (L lv)

variable {F : FTy → Type} [FloatOps F]

local notation "𝕄" => MT nD τ sig ℕ (Elt F) ℕ UU ℕ

variable (m : (ℓ : Loc nD τ sig) → Buf (Elt F) ℓ)
variable (c : Dev nD)

variable (ρ : Dev nD → PrngReg)

/-- The memory a run starts from: any contents, every counter at zero. -/
abbrev s₀ : MemSt nD τ sig (Elt F) := ⟨m, fun _ => 0, ρ⟩

/-- Before the one point, -/
def Φ₀ (c : Dev nD) : sProp 𝕄 := iprop(start m c ∗ rest (F := F) c)
/-- and after it. -/
def Φ₁ (c : Dev nD) : sProp 𝕄 := iprop(unscopedSems0 c ∗ ownZ (F := F) c ∗ rest (F := F) c)

def dats (_ : Fin 1) (c : Dev nD) : Dat τ (Elt F) ℕ ℕ UU ℕ cfg0 c where
  A w := m ((cfg0.win w).arr.view.loc (c : Thread nD τ))
  after w _ := match w with
    | ⟨0, _⟩ => x0 m c
    | ⟨1, _⟩ => Wi m 0 c
    | ⟨2, _⟩ => Wo m 0 c
    | ⟨3, _⟩ => Wi m 1 c
    | ⟨4, _⟩ => Wo m 1 c
    | ⟨5, _⟩ => Wi m 2 c
    | ⟨6, _⟩ => Wo m 2 c
    | ⟨7, _⟩ => glue (Xv m 3)
    | ⟨n + 8, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

section Body

/-- Each input window is fetched whole: its staging buffer holds its array. -/
theorem before0 (t : Fin cfg0.N) (d) : (dats m 0 c).before (0 : Fin 8) t d = x0 m c := by
  unfold Dat.before
  rw [if_pos (fetch0_0 t)]
  have hz : (fun a => win0_0.index t a * main_arg0.ty.shape.size a) = fun _ => 0 := funext fun a => Nat.zero_mul _
  exact Memref.read_access_unit_zero (Elt F) main_arg0 hz (fun a => Nat.le_of_eq (by rw [congrFun hz a, Nat.zero_add])) (m ((c : Thread nD τ).loc main_arg0))

theorem before1 (t : Fin cfg0.N) (d) : (dats m 0 c).before (1 : Fin 8) t d = Wi m 0 c := by
  unfold Dat.before
  rw [if_pos (fetch0_1 t)]
  have hz : (fun a => win0_1.index t a * main_arg1.ty.shape.size a) = fun _ => 0 := funext fun a => Nat.zero_mul _
  exact Memref.read_access_unit_zero (Elt F) main_arg1 hz (fun a => Nat.le_of_eq (by rw [congrFun hz a, Nat.zero_add])) (m ((c : Thread nD τ).loc main_arg1))

theorem before2 (t : Fin cfg0.N) (d) : (dats m 0 c).before (2 : Fin 8) t d = Wo m 0 c := by
  unfold Dat.before
  rw [if_pos (fetch0_2 t)]
  have hz : (fun a => win0_2.index t a * main_arg4.ty.shape.size a) = fun _ => 0 := funext fun a => Nat.zero_mul _
  exact Memref.read_access_unit_zero (Elt F) main_arg4 hz (fun a => Nat.le_of_eq (by rw [congrFun hz a, Nat.zero_add])) (m ((c : Thread nD τ).loc main_arg4))

theorem before3 (t : Fin cfg0.N) (d) : (dats m 0 c).before (3 : Fin 8) t d = Wi m 1 c := by
  unfold Dat.before
  rw [if_pos (fetch0_3 t)]
  have hz : (fun a => win0_3.index t a * main_arg2.ty.shape.size a) = fun _ => 0 := funext fun a => Nat.zero_mul _
  exact Memref.read_access_unit_zero (Elt F) main_arg2 hz (fun a => Nat.le_of_eq (by rw [congrFun hz a, Nat.zero_add])) (m ((c : Thread nD τ).loc main_arg2))

theorem before4 (t : Fin cfg0.N) (d) : (dats m 0 c).before (4 : Fin 8) t d = Wo m 1 c := by
  unfold Dat.before
  rw [if_pos (fetch0_4 t)]
  have hz : (fun a => win0_4.index t a * main_arg5.ty.shape.size a) = fun _ => 0 := funext fun a => Nat.zero_mul _
  exact Memref.read_access_unit_zero (Elt F) main_arg5 hz (fun a => Nat.le_of_eq (by rw [congrFun hz a, Nat.zero_add])) (m ((c : Thread nD τ).loc main_arg5))

theorem before5 (t : Fin cfg0.N) (d) : (dats m 0 c).before (5 : Fin 8) t d = Wi m 2 c := by
  unfold Dat.before
  rw [if_pos (fetch0_5 t)]
  have hz : (fun a => win0_5.index t a * main_arg3.ty.shape.size a) = fun _ => 0 := funext fun a => Nat.zero_mul _
  exact Memref.read_access_unit_zero (Elt F) main_arg3 hz (fun a => Nat.le_of_eq (by rw [congrFun hz a, Nat.zero_add])) (m ((c : Thread nD τ).loc main_arg3))

theorem before6 (t : Fin cfg0.N) (d) : (dats m 0 c).before (6 : Fin 8) t d = Wo m 2 c := by
  unfold Dat.before
  rw [if_pos (fetch0_6 t)]
  have hz : (fun a => win0_6.index t a * main_arg6.ty.shape.size a) = fun _ => 0 := funext fun a => Nat.zero_mul _
  exact Memref.read_access_unit_zero (Elt F) main_arg6 hz (fun a => Nat.le_of_eq (by rw [congrFun hz a, Nat.zero_add])) (m ((c : Thread nD τ).loc main_arg6))

set_option maxRecDepth 4000 in
def bodyPre : sProp 𝕄 :=
  iprop(Φ₀ m c ∗ (dats m 0 c).owesAt 0 t0_0.castSucc
    ∗ (∃ d, own c xM ((dats m 0 c).before (0 : Fin 8) t0_0 d))
    ∗ (∃ d, own c wi0M ((dats m 0 c).before (1 : Fin 8) t0_0 d))
    ∗ (∃ d, own c wo0M ((dats m 0 c).before (2 : Fin 8) t0_0 d))
    ∗ (∃ d, own c wi1M ((dats m 0 c).before (3 : Fin 8) t0_0 d))
    ∗ (∃ d, own c wo1M ((dats m 0 c).before (4 : Fin 8) t0_0 d))
    ∗ (∃ d, own c wi2M ((dats m 0 c).before (5 : Fin 8) t0_0 d))
    ∗ (∃ d, own c wo2M ((dats m 0 c).before (6 : Fin 8) t0_0 d))
    ∗ (∃ d, own c outM ((dats m 0 c).before (7 : Fin 8) t0_0 d)))

set_option maxRecDepth 4000 in
def bodyPost : sProp 𝕄 :=
  iprop(Φ₁ (F := F) c ∗ (dats m 0 c).owesAt 0 t0_0.succ
    ∗ own c xM (x0 m c) ∗ own c wi0M (Wi m 0 c) ∗ own c wo0M (Wo m 0 c) ∗ own c wi1M (Wi m 1 c) ∗ own c wo1M (Wo m 1 c) ∗ own c wi2M (Wi m 2 c) ∗ own c wo2M (Wo m 2 c) ∗ own c outM (glue (Xv m 3)))

set_option maxRecDepth 4000 in
theorem pre_enter : bodyPre m c ⊢ iprop(∃ K, TD m K c 1) := by
  unfold bodyPre Φ₀ Dat.owesAt Pipeline.owesWithin
  rw [show (dats m 0 c).owed t0_0.castSucc = O₀ c from rfl]
  iintro ⟨⟨HS, Hr⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  rw [before0]
  rw [before1]
  rw [before2]
  rw [before3]
  rw [before4]
  rw [before5]
  rw [before6]
  iapply (enter m c)
  isplitl [HS]; · iexact HS
  isplitl [Hr]; · iexact Hr
  isplitl [HO]
  · unfold OW
    iexists W
    iexact HO
  isplitr [H7]
  · isplitl [H0]; · iexact H0
    unfold wts
    isplitl [H1]; · iexact H1
    isplitl [H2]; · iexact H2
    isplitl [H3]; · iexact H3
    isplitl [H4]; · iexact H4
    isplitl [H5] <;> iassumption
  unfold anyO
  iexists _
  iexact H7

set_option maxRecDepth 4000 in
theorem leave_post (K : Dev nD × CI → ℕ) : T8 m K c 16 ⊢ |={Set.univ}=> bodyPost m c := by
  have h : iprop((unscopedSems0 c ∗ ownZ (F := F) c ∗ rest (F := F) c) ∗ OW (F := F) c [] ∗ (own c xM (x0 m c) ∗ wts m c) ∗ own c outM (glue (Xv m 3)))
      ⊢ bodyPost m c := by
    unfold bodyPost Φ₁ Dat.owesAt Pipeline.owesWithin OW wts
    rw [show (dats m 0 c).owed t0_0.succ = 0 from rfl]
    iintro ⟨HΦ, ⟨%W, HO⟩, ⟨H0, H1, H2, H3, H4, H5, H6⟩, H7⟩
    isplitl [HΦ]; · iexact HΦ
    isplitl [HO]
    · iexists W
      isplitr; · (ipureintro; exact fun _ _ => Or.inl trivial)
      iexact HO
    isplitl [H0]; · iexact H0
    isplitl [H1]; · iexact H1
    isplitl [H2]; · iexact H2
    isplitl [H3]; · iexact H3
    isplitl [H4]; · iexact H4
    isplitl [H5]; · iexact H5
    isplitl [H6] <;> iassumption
  iintro H
  imod (leave m c K) $$ H with H
  imodintro
  iapply h $$ H

set_option maxRecDepth 100000 in
/-- The library's body obligation on device `c`. -/
theorem body_obligation : BodyObligation (dats m 0 c) (defs₀ (F := F)) 𝒱₀ 0 Set.univ := fun t => by
  rw [fin_N0 t]
  rw [bigSep_W0, bigSep_W0]
  show bodyPre m c ⊢ WP c (cc0_body (F := F) xM (Memref.isWhole_whole _) wi0M (Memref.isWhole_whole _) wo0M (Memref.isWhole_whole _) wi1M (Memref.isWhole_whole _)
    wo1M (Memref.isWhole_whole _) wi2M (Memref.isWhole_whole _) wo2M (Memref.isWhole_whole _) outM (Memref.isWhole_whole _)
    xfM (Memref.isWhole_whole _) ptM (Memref.isWhole_whole _) rbM (Memref.isWhole_whole _) msM (Memref.isWhole_whole _) cc0_scratch4 cc0_scratch5 cc0_scratch6 cc0_scratch7)
    (fun _ => bodyPost m c)
  refine (pre_enter m c).trans ?_
  iintro ⟨%K, H⟩
  unfold WP
  iapply wp_fupd
  iapply (body_run m K c (Q := fun _ => iprop(|={Set.univ}=> bodyPost m c)) (leave_post m c K)) $$ H

end Body

/-! ## The launch -/

theorem share_eq (w : Fin cfg0.W) : (dats m 0 c).share w = fullShare := by unfold Dat.share; split <;> rfl

theorem waits : (levAts (L 9) lv : sProp 𝕄) ⊢ Pipeline.cellsWaits cfgs (dats m) 0 0 c :=
  Pipeline.cellsWaits_intro cfgs (dats m) 0 0 c fun w s t => by
    rcases t with ⟨_ | _, ht⟩
    · exact mayWait_abv c _ (by decide) (abv_dBar c 1)
    · exact mayWait_abv c _ (by decide) (l := []) (fun _ h => absurd h (List.not_mem_nil))

theorem start_intro : iprop(Pipeline.unscopedRestP Pipeline.Prefetch.none cfg0.spec c (fun b => m ((c : Thread nD τ).loc b)) ∗ levAts (L 9) lv
      ∗ Pipeline.launchCred O₀ c ∗ prngReg c (ρ c) ∗ G' m c)
    ⊢ |={Set.univ}=> iprop(start m c ∗ emp) := by
  unfold start
  iintro ⟨-, HL, HC, -, HG⟩
  imodintro
  isplitl [HL HC HG]
  · isplitl [HG]; · iexact HG
    isplitl [HC] <;> iassumption
  iempintro

theorem phi0_intro : iprop(start m c ∗ Pipeline.prefHeld Pipeline.Prefetch.none c (fun _ => fullShare.right) (fun k => k.elim0) ∗ Pipeline.scopedRest cfg0.spec c)
    ⊢ (dats m 0 c).Φ 0 := by
  rw [show (dats m 0 c).Φ 0 = Φ₀ m c from rfl]
  unfold Φ₀ rest
  iintro ⟨HS, -, HR⟩
  isplitl [HS] <;> iassumption

theorem phi1_exit : (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl]
  unfold Φ₁ rest ownZ
  exact BIBase.Entails.rfl

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- From any memory with zero counters every weakly fair execution on the sixteen devices ends, with each device's arrays
    at the computed contents and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L 9) (lv := lv) (hL := SiteBlocks.hL 9) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := fun c => start_intro m c ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs end as they began, -/
theorem finalA_in (w : Fin 8) (hw : (cfg0.win w).isOut = false) : finalA m c w = m ((cfg0.win w).arr.view.loc (c : Thread nD τ)) :=
  (dats m 0 c).arrAt_in w hw _

/-- and the result holds the third layer's rows of all devices. -/
theorem finalA_out : finalA m c (7 : Fin 8) = glue (Xv m 3) := by
  unfold finalA
  rw [show cfg0.N = ((0 : Fin 1) : Fin cfg0.N).val + 1 from rfl, (dats m 0 c).arrAt_succ (7 : Fin 8) (0 : Fin 1)]
  rw [show (cfg0.win 7).flush (0 : Fin 1) = true from flush0_7 _, if_pos rfl]
  have hz : (fun a => win0_7.index (0 : Fin 1) a * main_v1.ty.shape.size a) = fun _ => 0 := funext fun a => Nat.zero_mul _
  refine (Memref.read_access_unit_zero (Elt F) main_v1 hz (fun a => Nat.le_of_eq (by rw [congrFun hz a, Nat.zero_add])) _).symm.trans ?_
  exact View.read_write_univ _ _

end Cert.MlpProof

end
-- ==== Proof.Value.lean ====
/-
# The value

At the extended reals a layer's result is a sum over the 16384 hidden columns. The devices cut these columns into sixteen runs of
1024: each device sums its run, and the sum of the sixteen parts, in whatever order a device takes its peers, is the whole sum. So row
block `s` of the reference's activations is, layer by layer, what device `s` holds.
-/
module

public import proofs.«01_k».proof.Proof.Share
public import proofs.«01_k».proof.Proof.Gen.ReferenceIdeal.Run
public import Idealize.ShloMosaic.Lib.Layout
public import Idealize.ShloMosaic.Lib.MatmulPlain
public import Idealize.ShloMosaic.Lib.Pipeline.Value

@[expose] public section

noncomputable section

namespace Cert.MlpProof

open Cert.KernelIdeal Cert.KernelIdeal.Gen
open Idealize.ShloMosaic Idealize.ShloMosaic.TcCoe Idealize.ShloMosaic.ValueIdx

/-- A matrix of extended reals. -/
abbrev Mat (a b : ℕ) : Type := (⟨2, ![a, b]⟩ : Shape).Idx → Elt Ideal .f32

/-- Device `c`'s row block, -/
abbrev rowsOf {a b k : ℕ} (c : Fin 16) (X : Mat k b) (h : Layout.Tiles ⟨2, ![a, b]⟩ ⟨2, ![k, b]⟩ 0 16) : Mat a b := Layout.block ⟨2, ![a, b]⟩ ⟨2, ![k, b]⟩ 0 16 c X h
/-- and its column block. -/
abbrev colsOf {a b k : ℕ} (c : Fin 16) (X : Mat a k) (h : Layout.Tiles ⟨2, ![a, b]⟩ ⟨2, ![a, k]⟩ 1 16) : Mat a b := Layout.block ⟨2, ![a, b]⟩ ⟨2, ![a, k]⟩ 1 16 c X h

/-! ## One layer -/

/-- The reference's layer. -/
def layer (A : Mat 512 16384) (B : Mat 16384 512) (X : Mat 1024 512) : Mat 1024 512 :=
  Host.dotGeneral (F := Ideal) (φ₁ := .f32) (φ₂ := .f32) Cert.ReferenceIdeal.dot_S1024x16384_S16384x512_S1024x512_1_0_0_1_n_n none
    (maximumf (Host.dotGeneral (F := Ideal) (φ₁ := .f32) (φ₂ := .f32) Cert.ReferenceIdeal.dot_S1024x512_S512x16384_S1024x16384_1_0_0_1_n_n none X A)
      (broadcastInDim Cert.ReferenceIdeal.S1024x16384 ![] Cert.ReferenceIdeal.Gen.bcast_S_S1024x16384 (constant Cert.ReferenceIdeal.S_ .f32 0x00000000#32))) B

theorem host_apply {M K N : ℕ} (lhs : Mat M K) (rhs : Mat K N) (r : Fin M) (b : Fin N) :
    Host.dotGeneral (F := Ideal) (φ₁ := .f32) (φ₂ := .f32) (DotDims.plain M K N) none lhs rhs (ix2 r b) = ∑ k : Fin K, lhs (ix2 r k) * rhs (ix2 k b) := by
  have h := Ideal.matmul_plain_apply (φ₁ := .f32) (φ₂ := .f32) none lhs rhs (fun _ => 0) r b
  rw [zero_add] at h
  exact h

theorem core_apply {M K N : ℕ} (lhs : Mat M K) (rhs : Mat K N) (r : Fin M) (b : Fin N) :
    matmul (F := Ideal) (φ₁ := .f32) (φ₂ := .f32) (DotDims.plain M K N) none lhs rhs (constant ⟨2, ![M, N]⟩ .f32 0x00000000#32) (ix2 r b)
      = ∑ k : Fin K, lhs (ix2 r k) * rhs (ix2 k b) := by
  refine (Ideal.matmul_plain_apply (φ₁ := .f32) (φ₂ := .f32) none lhs rhs _ r b).trans ?_
  show Ideal.ofBits .f32 0x00000000#32 + _ = _
  rw [Ideal.ofBits_zero_f32, zero_add]

theorem layer_apply (A : Mat 512 16384) (B : Mat 16384 512) (X : Mat 1024 512) (r : Fin 1024) (b : Fin 512) :
    layer A B X (ix2 r b) = ∑ k : Fin 16384, max (∑ j : Fin 512, X (ix2 r j) * A (ix2 j k)) 0 * B (ix2 k b) := by
  refine (host_apply (M := 1024) (K := 16384) (N := 512) _ B r b).trans (Finset.sum_congr rfl fun k _ => congrArg (· * B (ix2 k b)) ?_)
  refine congrArg₂ max (host_apply (M := 1024) (K := 512) (N := 16384) X A r k) ?_
  exact Ideal.ofBits_zero_f32

theorem part_apply (X : Mat 64 512) (A : Mat 512 1024) (B : Mat 1024 512) (r : Fin 64) (b : Fin 512) :
    partOf (F := Ideal) X A B (ix2 r b) = ∑ k : Fin 1024, max (∑ j : Fin 512, X (ix2 r j) * A (ix2 j k)) 0 * B (ix2 k b) := by
  unfold partOf k0_pay5
  simp only [shapeCast_self]
  refine (core_apply (M := 64) (K := 1024) (N := 512) _ B r b).trans (Finset.sum_congr rfl fun k _ => congrArg (· * B (ix2 k b)) ?_)
  refine congrArg₂ max (core_apply (M := 64) (K := 512) (N := 1024) X A r k) ?_
  exact Ideal.ofBits_zero_f32

/-! ## The sum over the devices -/

theorem red_range (p : Dev nD → Blk Ideal) (c : Dev nD) (i : S64x512.Idx) (n : ℕ) :
    redOf p c n i = ∑ k ∈ Finset.range (n + 1), (p (pr c k) i : EReal) := by
  induction n with
  | zero =>
    have h : pr c 0 = c := Fin.ext (by rw [pr_val]; have := dev_lt c; omega)
    rw [Finset.sum_range_one, h]; rfl
  | succ n ih => rw [Finset.sum_range_succ, ← ih]; rfl

theorem red_sum (p : Dev nD → Blk Ideal) (c : Dev nD) (i : S64x512.Idx) : redOf p c 15 i = ∑ d : Fin 16, (p d i : EReal) := by
  rw [red_range, Finset.sum_range]
  refine Fintype.sum_bijective (fun k : Fin 16 => (pr c k.val : Fin 16)) (Finite.injective_iff_bijective.mp fun a b h => Fin.ext ?_) _ _ fun _ => rfl
  have := congrArg Fin.val h
  simp only [pr_val] at this
  have := dev_lt c; have := a.isLt; have := b.isLt; omega

/-- A sum over the hidden columns, run by run. -/
theorem sum_runs (f : Fin 16384 → EReal) : ∑ k : Fin 16384, f k = ∑ d : Fin 16, ∑ k : Fin 1024, f ⟨d.val * 1024 + k.val, by omega⟩ := by
  rw [← Equiv.sum_comp (finProdFinEquiv (m := 16) (n := 1024)) f, Fintype.sum_prod_type]
  exact Finset.sum_congr rfl fun d _ => Finset.sum_congr rfl fun k _ => congrArg f (Fin.ext (by
    show k.val + 1024 * d.val = d.val * 1024 + k.val
    omega))

/-- Row block `s` of a layer's result is the sum of the devices' parts on row block `s`. -/
theorem layer_rows (A : Mat 512 16384) (B : Mat 16384 512) (X : Mat 1024 512) (s : Dev nD) :
    redOf (F := Ideal) (fun d => partOf (F := Ideal) (rowsOf (a := 64) s X (by decide)) (colsOf (b := 1024) d A (by decide)) (rowsOf (a := 1024) d B (by decide))) s 15
      = rowsOf (a := 64) s (layer A B X) (by decide) := by
  funext i
  obtain ⟨r, b, rfl⟩ : ∃ (r : Fin 64) (b : Fin 512), i = ix2 r b := ⟨i 0, i 1, eq_ix2 i⟩
  rw [red_sum]
  have hs := dev_lt s
  have hr : (Layout.Tiles.idx (S := ⟨2, ![64, 512]⟩) (T := ⟨2, ![1024, 512]⟩) (a := 0) (k := 16) (by decide) s (ix2 r b)) = ix2 ⟨s.val * 64 + r.val, by omega⟩ b := by
    funext a; match a with | ⟨0, _⟩ => rfl | ⟨1, _⟩ => rfl
  show _ = layer A B X _
  rw [hr, layer_apply, sum_runs]
  refine Finset.sum_congr rfl fun d _ => ?_
  rw [part_apply]
  refine Finset.sum_congr rfl fun k _ => ?_
  have hB : rowsOf (a := 1024) d B (by decide) (ix2 k b) = B (ix2 ⟨d.val * 1024 + k.val, by omega⟩ b) :=
    congrArg B (by funext a; match a with | ⟨0, _⟩ => rfl | ⟨1, _⟩ => rfl)
  rw [hB]
  refine congrArg (fun z : EReal => max z 0 * _) (Finset.sum_congr rfl fun j _ => ?_)
  have hX : rowsOf (a := 64) s X (by decide) (ix2 r j) = X (ix2 ⟨s.val * 64 + r.val, by omega⟩ j) :=
    congrArg X (by funext a; match a with | ⟨0, _⟩ => rfl | ⟨1, _⟩ => rfl)
  have hA : colsOf (b := 1024) d A (by decide) (ix2 j k) = A (ix2 j ⟨d.val * 1024 + k.val, by omega⟩) :=
    congrArg A (by funext a; match a with | ⟨0, _⟩ => rfl | ⟨1, _⟩ => rfl)
  rw [hX, hA]

/-! ## The three layers -/

/-- What the result buffer ends holding is the reference's three layers. -/
theorem value (m : (ℓ : Loc nD τ sig) → Buf (Elt Ideal) ℓ) (X : Mat 1024 512) (A0 A1 A2 : Mat 512 16384) (B0 B1 B2 : Mat 16384 512)
    (hX : ∀ c, x0 m c = rowsOf (a := 64) c X (by decide))
    (hA0 : ∀ c, Wi m 0 c = colsOf (b := 1024) c A0 (by decide)) (hB0 : ∀ c, Wo m 0 c = rowsOf (a := 1024) c B0 (by decide))
    (hA1 : ∀ c, Wi m 1 c = colsOf (b := 1024) c A1 (by decide)) (hB1 : ∀ c, Wo m 1 c = rowsOf (a := 1024) c B1 (by decide))
    (hA2 : ∀ c, Wi m 2 c = colsOf (b := 1024) c A2 (by decide)) (hB2 : ∀ c, Wo m 2 c = rowsOf (a := 1024) c B2 (by decide)) :
    glue (Xv m 3) = layer A2 B2 (layer A1 B1 (layer A0 B0 X)) := by
  have step (l : ℕ) (Y : Mat 1024 512) (A : Mat 512 16384) (B : Mat 16384 512) (hY : ∀ c, Xv m l c = rowsOf (a := 64) c Y (by decide))
      (hA : ∀ c, Wi m l c = colsOf (b := 1024) c A (by decide)) (hB : ∀ c, Wo m l c = rowsOf (a := 1024) c B (by decide)) (c : Dev nD) :
      Xv m (l + 1) c = rowsOf (a := 64) c (layer A B Y) (by decide) := by
    show redOf (fun d => partOf (Xv m l c) (Wi m l d) (Wo m l d)) c 15 = _
    simp only [hY, hA, hB]
    exact layer_rows A B Y c
  have h3 := step 2 _ A2 B2 (step 1 _ A1 B1 (step 0 X A0 B0 hX hA0 hB0) hA1 hB1) hA2 hB2
  funext i
  show Xv m 3 (rowOf i) (inRow i) = _
  rw [h3]
  refine congrArg (layer A2 B2 (layer A1 B1 (layer A0 B0 X))) ?_
  funext a
  refine Fin.ext ?_
  match a with
  | ⟨0, _⟩ =>
    show (i 0).val / 64 * 64 + (i 0).val % 64 = (i 0).val
    omega
  | ⟨1, _⟩ => rfl

end Cert.MlpProof

end
-- ==== Proof.lean ====
/-
# The claims

From the run of the sixteen devices and the value of its result: the frames, and the equation with the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.MlpProof

/-- The arguments of every device end as they began. -/
theorem args_kept {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) :=
  ⟨(h c (0 : Fin 8)).trans (finalA_in m c 0 rfl), (h c (1 : Fin 8)).trans (finalA_in m c 1 rfl), (h c (3 : Fin 8)).trans (finalA_in m c 3 rfl), (h c (5 : Fin 8)).trans (finalA_in m c 5 rfl),
    (h c (2 : Fin 8)).trans (finalA_in m c 2 rfl), (h c (4 : Fin 8)).trans (finalA_in m c 4 rfl), (h c (6 : Fin 8)).trans (finalA_in m c 6 rfl)⟩

/-- On machine words the two printed bodies are one program. -/
theorem body_eq : @Cert.Kernel.cc0_body Bits _ _ = @Cert.KernelIdeal.cc0_body Bits _ _ := by
  funext a0 h0 a1 h1 a2 h2 a3 h3 a4 h4 a5 h5 a6 h6 a7 h7 a8 h8 a9 h9 a10 h10 a11 h11 b0 b1 b2 b3
  rfl

/-- So are the two tables of bodies. -/
theorem defs₀_eq : Cert.Kernel.defs₀ (F := Bits) = Cert.KernelIdeal.defs₀ (F := Bits) := by
  unfold Cert.Kernel.defs₀ Cert.KernelIdeal.defs₀
  rw [body_eq]
  refine congrArg Defs.onTc ?_
  funext ℓ a
  match ℓ, a with
  | 0, (t, s) => rfl

/-- And the tables with the launch's pipeline added. -/
theorem defs_eq : Cert.Kernel.defs (F := Bits) = Cert.KernelIdeal.defs (F := Bits) := by
  unfold Cert.Kernel.defs Cert.KernelIdeal.defs
  rw [defs₀_eq]
  rfl

/-- The kernel on machine words finishes, keeps its arguments and leaves no count behind. -/
theorem frame_kernel : Cert.quiescent_Kernel := fun m g _ => by
  rw [defs_eq]
  exact (θ_run (Cert.KernelIdeal.defs (F := Bits)) _ _).mono (fun _ h => ⟨args_kept h.1, h.2⟩)
    (run_main (F := Bits) m g)

/-- The same over the ideal numbers. -/
theorem frame_ideal : Cert.quiescent_KernelIdeal := fun m g _ =>
  (θ_run (Cert.KernelIdeal.defs (F := Ideal)) _ _).mono (fun _ h => ⟨args_kept h.1, h.2⟩) (run_main (F := Ideal) m g)

/-- The reference finishes and keeps its arguments. -/
theorem frame_reference : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- Every device's result is the whole MLP of the reference. -/
theorem equal : Cert.algebraic_KernelIdeal_ReferenceIdeal := fun m g m' g' _ hm => by
  refine ⟨_, (θ_run (Cert.KernelIdeal.defs (F := Ideal)) _ _).mono (fun r h c => ⟨?_, args_kept h.1 c⟩) (run_main (F := Ideal) m g),
    (θ_run (Cert.ReferenceIdeal.defs (F := Ideal)) _ _).mono (fun r h => ⟨(h 0).1, (h 0).2⟩) (Cert.ReferenceIdeal.Value.run (F := Ideal) m' g')⟩
  refine ((h.1 c (7 : Fin 8)).trans (finalA_out m c)).trans ?_
  exact value m _ _ _ _ _ _ _ (fun c => (hm c).1) (fun c => (hm c).2.1) (fun c => (hm c).2.2.2.2.1) (fun c => (hm c).2.2.1) (fun c => (hm c).2.2.2.2.2.1)
    (fun c => (hm c).2.2.2.1) (fun c => (hm c).2.2.2.2.2.2)

/-- All five claims. -/
theorem claim : Cert.Claim :=
  ⟨Cert.Kernel.Gen.facts, Cert.KernelIdeal.Gen.facts, Cert.ReferenceIdeal.Gen.facts, frame_kernel, frame_ideal, frame_reference, trivial, equal⟩

end Cert.Proof

end
